-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![1024, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1024 : Shape := ⟨2, ![128, 1024]⟩
abbrev S1024x128 : Shape := ⟨2, ![1024, 128]⟩
abbrev S1024x1024 : Shape := ⟨2, ![1024, 1024]⟩
abbrev S3 : Shape := ⟨1, ![3]⟩
abbrev S4 : Shape := ⟨1, ![4]⟩
abbrev S_ : Shape := ⟨0, ![]⟩
abbrev S1 : Shape := ⟨1, ![1]⟩
abbrev S128x128 : Shape := ⟨2, ![128, 128]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S128x1024, .bf16⟩
  | .hbm, ⟨1, _⟩ => ⟨S1024x128, .bf16⟩
  | .hbm, ⟨2, _⟩ => ⟨S1024x128, .f32⟩
  | .local _ .vmem, ⟨0, _⟩ => ⟨S128x1024, .bf16⟩
  | .local _ .vmem, ⟨1, _⟩ => ⟨S1024x128, .bf16⟩
  | .local _ .vmem, ⟨2, _⟩ => ⟨S1024x128, .f32⟩
  | .local _ .vmem, ⟨3, _⟩ => ⟨S1024x1024, .bf16⟩
  | .local _ .vmem, ⟨4, _⟩ => ⟨S1024x128, .bf16⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_13 : BitVec 32 := 1#32
  let v23 : BitVec 32 := Scalar.muli v10 c1_i32_13
  let v24 : BitVec 32 := Scalar.addi c0_i32 v23
  v24.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_15 : BitVec 32 := 1#32
  let v25 : BitVec 32 := Scalar.muli v7 c1_i32_15
  let v26 : BitVec 32 := Scalar.addi c0_i32_16 v25
  v26.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v14 : BitVec 32 := Scalar.addi v2 c4_i32_4
  let c8_i32_5 : BitVec 32 := 8#32
  let v15 : BitVec 32 := Scalar.remsi v14 c8_i32_5
  let c1_i32_18 : BitVec 32 := 1#32
  let v27 : BitVec 32 := Scalar.muli v15 c1_i32_18
  let v28 : BitVec 32 := Scalar.addi c0_i32_19 v27
  v28.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v31 : BitVec 32 := Scalar.muli v2 c128_i32
  let v32 : Index := Scalar.indexCast v31
  let c0_21 : Index := 0#32
  ![v32.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_23 : BitVec 32 := 128#32
  let v36 : BitVec 32 := Scalar.muli v2 c128_i32_23
  let c0_i32_28 : BitVec 32 := 0#32
  ![v36.toNat, 0]
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v14 : BitVec 32 := Scalar.addi v2 c4_i32_4
  let c8_i32_5 : BitVec 32 := 8#32
  let v15 : BitVec 32 := Scalar.remsi v14 c8_i32_5
  let c1_i32_26 : BitVec 32 := 1#32
  let v37 : BitVec 32 := Scalar.muli v15 c1_i32_26
  let v38 : BitVec 32 := Scalar.addi c0_i32_27 v37
  v38.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_33 : BitVec 32 := 1#32
  let v46 : BitVec 32 := Scalar.muli v7 c1_i32_33
  let v47 : BitVec 32 := Scalar.addi c0_i32_34 v46
  v47.toNat
def k0_dev6 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_40 : BitVec 32 := 1#32
  let v55 : BitVec 32 := Scalar.muli v10 c1_i32_40
  let v56 : BitVec 32 := Scalar.addi c0_i32_41 v55
  v56.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_52 : BitVec 32 := 128#32
  let v73 : BitVec 32 := Scalar.muli v2 c128_i32_52
  let v74 : Index := Scalar.indexCast v73
  let c0_53 : Index := 0#32
  ![v74.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v14 : BitVec 32 := Scalar.addi v2 c4_i32_4
  let c8_i32_5 : BitVec 32 := 8#32
  let v15 : BitVec 32 := Scalar.remsi v14 c8_i32_5
  let c128_i32_54 : BitVec 32 := 128#32
  let v76 : BitVec 32 := Scalar.muli v15 c128_i32_54
  let c0_i32_59 : BitVec 32 := 0#32
  ![v76.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v14 : BitVec 32 := Scalar.addi v2 c4_i32_4
  let c8_i32_5 : BitVec 32 := 8#32
  let v15 : BitVec 32 := Scalar.remsi v14 c8_i32_5
  let c128_i32_61 : BitVec 32 := 128#32
  let v83 : BitVec 32 := Scalar.muli v15 c128_i32_61
  let c512_i32 : BitVec 32 := 512#32
  ![v83.toNat, 512]
def k0_dev7 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_64 : BitVec 32 := 1#32
  let v84 : BitVec 32 := Scalar.muli v7 c1_i32_64
  let v85 : BitVec 32 := Scalar.addi c0_i32_65 v84
  v85.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v14 : BitVec 32 := Scalar.addi v2 c4_i32_4
  let c8_i32_5 : BitVec 32 := 8#32
  let v15 : BitVec 32 := Scalar.remsi v14 c8_i32_5
  let c128_i32_67 : BitVec 32 := 128#32
  let v92 : BitVec 32 := Scalar.muli v15 c128_i32_67
  let c0_i32_72 : BitVec 32 := 0#32
  ![v92.toNat, 0]
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_70 : BitVec 32 := 1#32
  let v93 : BitVec 32 := Scalar.muli v10 c1_i32_70
  let v94 : BitVec 32 := Scalar.addi c0_i32_71 v93
  v94.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v14 : BitVec 32 := Scalar.addi v2 c4_i32_4
  let c8_i32_5 : BitVec 32 := 8#32
  let v15 : BitVec 32 := Scalar.remsi v14 c8_i32_5
  let c128_i32_74 : BitVec 32 := 128#32
  let v101 : BitVec 32 := Scalar.muli v15 c128_i32_74
  let v102 : Index := Scalar.indexCast v101
  let c0_75 : Index := 0#32
  ![v102.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v14 : BitVec 32 := Scalar.addi v2 c4_i32_4
  let c8_i32_5 : BitVec 32 := 8#32
  let v15 : BitVec 32 := Scalar.remsi v14 c8_i32_5
  let c128_i32_79 : BitVec 32 := 128#32
  let v106 : BitVec 32 := Scalar.muli v15 c128_i32_79
  let v107 : Index := Scalar.indexCast v106
  let c0_80 : Index := 0#32
  ![v107.toNat, 0]
def k0_off9 (d0 : Dev nD) (c3_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v8 : BitVec 32 := Scalar.addi v3 c3_i32
  let c4_i32_2 : BitVec 32 := 4#32
  let v9 : BitVec 32 := Scalar.remsi v8 c4_i32_2
  let v10 : BitVec 32 := Scalar.addi v4 v9
  let c128_i32_81 : BitVec 32 := 128#32
  let v109 : BitVec 32 := Scalar.muli v10 c128_i32_81
  let c0_i32_86 : BitVec 32 := 0#32
  ![v109.toNat, 0]
def k0_off10 (d0 : Dev nD) (c3_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v8 : BitVec 32 := Scalar.addi v3 c3_i32
  let c4_i32_2 : BitVec 32 := 4#32
  let v9 : BitVec 32 := Scalar.remsi v8 c4_i32_2
  let v10 : BitVec 32 := Scalar.addi v4 v9
  let c128_i32_88 : BitVec 32 := 128#32
  let v116 : BitVec 32 := Scalar.muli v10 c128_i32_88
  let c0_i32_93 : BitVec 32 := 0#32
  ![v116.toNat, 0]
def k0_dev9 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v14 : BitVec 32 := Scalar.addi v2 c4_i32_4
  let c8_i32_5 : BitVec 32 := 8#32
  let v15 : BitVec 32 := Scalar.remsi v14 c8_i32_5
  let c1_i32_91 : BitVec 32 := 1#32
  let v117 : BitVec 32 := Scalar.muli v15 c1_i32_91
  let v118 : BitVec 32 := Scalar.addi c0_i32_92 v117
  v118.toNat
def k0_dev10 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_98 : BitVec 32 := 1#32
  let v126 : BitVec 32 := Scalar.muli v7 c1_i32_98
  let v127 : BitVec 32 := Scalar.addi c0_i32_99 v126
  v127.toNat
def k0_off11 (d0 : Dev nD) (c3_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v8 : BitVec 32 := Scalar.addi v3 c3_i32
  let c4_i32_2 : BitVec 32 := 4#32
  let v9 : BitVec 32 := Scalar.remsi v8 c4_i32_2
  let v10 : BitVec 32 := Scalar.addi v4 v9
  let c128_i32_102 : BitVec 32 := 128#32
  let v134 : BitVec 32 := Scalar.muli v10 c128_i32_102
  let v135 : Index := Scalar.indexCast v134
  let c0_103 : Index := 0#32
  ![v135.toNat, 0]
def k0_off12 (d0 : Dev nD) (c3_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v8 : BitVec 32 := Scalar.addi v3 c3_i32
  let c4_i32_2 : BitVec 32 := 4#32
  let v9 : BitVec 32 := Scalar.remsi v8 c4_i32_2
  let v10 : BitVec 32 := Scalar.addi v4 v9
  let c128_i32_107 : BitVec 32 := 128#32
  let v139 : BitVec 32 := Scalar.muli v10 c128_i32_107
  let v140 : Index := Scalar.indexCast v139
  let c0_108 : Index := 0#32
  ![v140.toNat, 0]
def k0_off13 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.addi v3 c1_i32_0
  let c4_i32_1 : BitVec 32 := 4#32
  let v6 : BitVec 32 := Scalar.remsi v5 c4_i32_1
  let v7 : BitVec 32 := Scalar.addi v4 v6
  let c128_i32_116 : BitVec 32 := 128#32
  let v149 : BitVec 32 := Scalar.muli v7 c128_i32_116
  let c512_i32_121 : BitVec 32 := 512#32
  ![v149.toNat, 512]
def k0_dev11 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v14 : BitVec 32 := Scalar.addi v2 c4_i32_4
  let c8_i32_5 : BitVec 32 := 8#32
  let v15 : BitVec 32 := Scalar.remsi v14 c8_i32_5
  let c1_i32_119 : BitVec 32 := 1#32
  let v150 : BitVec 32 := Scalar.muli v15 c1_i32_119
  let v151 : BitVec 32 := Scalar.addi c0_i32_120 v150
  v151.toNat
def k0_dev12 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_126 : BitVec 32 := 1#32
  let v159 : BitVec 32 := Scalar.muli v10 c1_i32_126
  let v160 : BitVec 32 := Scalar.addi c0_i32_127 v159
  v160.toNat
def k0_off14 (d0 : Dev nD) (c3_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v8 : BitVec 32 := Scalar.addi v3 c3_i32
  let c4_i32_2 : BitVec 32 := 4#32
  let v9 : BitVec 32 := Scalar.remsi v8 c4_i32_2
  let v10 : BitVec 32 := Scalar.addi v4 v9
  let c4_i32_6 : BitVec 32 := 4#32
  let v16 : BitVec 32 := Scalar.addi v10 c4_i32_6
  let c8_i32_7 : BitVec 32 := 8#32
  let v17 : BitVec 32 := Scalar.remsi v16 c8_i32_7
  let c128_i32_137 : BitVec 32 := 128#32
  let v175 : BitVec 32 := Scalar.muli v17 c128_i32_137
  let c0_i32_142 : BitVec 32 := 0#32
  ![v175.toNat, 0]
def k0_dev13 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_147 : BitVec 32 := 1#32
  let v183 : BitVec 32 := Scalar.muli v7 c1_i32_147
  let v184 : BitVec 32 := Scalar.addi c0_i32_148 v183
  v184.toNat
def k0_off15 (d0 : Dev nD) (c3_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v8 : BitVec 32 := Scalar.addi v3 c3_i32
  let c4_i32_2 : BitVec 32 := 4#32
  let v9 : BitVec 32 := Scalar.remsi v8 c4_i32_2
  let v10 : BitVec 32 := Scalar.addi v4 v9
  let c4_i32_6 : BitVec 32 := 4#32
  let v16 : BitVec 32 := Scalar.addi v10 c4_i32_6
  let c8_i32_7 : BitVec 32 := 8#32
  let v17 : BitVec 32 := Scalar.remsi v16 c8_i32_7
  let c128_i32_151 : BitVec 32 := 128#32
  let v191 : BitVec 32 := Scalar.muli v17 c128_i32_151
  let c512_i32_156 : BitVec 32 := 512#32
  ![v191.toNat, 512]
def k0_off16 (d0 : Dev nD) (c3_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v8 : BitVec 32 := Scalar.addi v3 c3_i32
  let c4_i32_2 : BitVec 32 := 4#32
  let v9 : BitVec 32 := Scalar.remsi v8 c4_i32_2
  let v10 : BitVec 32 := Scalar.addi v4 v9
  let c4_i32_6 : BitVec 32 := 4#32
  let v16 : BitVec 32 := Scalar.addi v10 c4_i32_6
  let c8_i32_7 : BitVec 32 := 8#32
  let v17 : BitVec 32 := Scalar.remsi v16 c8_i32_7
  let c128_i32_158 : BitVec 32 := 128#32
  let v198 : BitVec 32 := Scalar.muli v17 c128_i32_158
  let v199 : Index := Scalar.indexCast v198
  let c0_159 : Index := 0#32
  ![v199.toNat, 0]
def k0_off17 (d0 : Dev nD) (c3_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v8 : BitVec 32 := Scalar.addi v3 c3_i32
  let c4_i32_2 : BitVec 32 := 4#32
  let v9 : BitVec 32 := Scalar.remsi v8 c4_i32_2
  let v10 : BitVec 32 := Scalar.addi v4 v9
  let c4_i32_6 : BitVec 32 := 4#32
  let v16 : BitVec 32 := Scalar.addi v10 c4_i32_6
  let c8_i32_7 : BitVec 32 := 8#32
  let v17 : BitVec 32 := Scalar.remsi v16 c8_i32_7
  let c128_i32_163 : BitVec 32 := 128#32
  let v203 : BitVec 32 := Scalar.muli v17 c128_i32_163
  let v204 : Index := Scalar.indexCast v203
  let c0_164 : Index := 0#32
  ![v204.toNat, 0]
def k0_dev14 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_182 : BitVec 32 := 1#32
  let v221 : BitVec 32 := Scalar.muli v10 c1_i32_182
  let v222 : BitVec 32 := Scalar.addi c0_i32_183 v221
  v222.toNat
abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Mesh.lean ====
/-
# The mesh of the gathering matmul: devices, transfers, and the pieces of the gathered array

Eight devices stand in two rings of four; each has a left and a right neighbour in its ring and a partner in the
other ring. Every device sends eleven copies: pieces of the gathered array that it holds, to one of its three
neighbours. This module names the neighbours, the eleven transfers (whom each goes to, whose block it carries and
which half of it, the two semaphores it completes on) and the index sets of the gathered array they move.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.GatherMatmul

open Cert.KernelIdeal Cert.KernelIdeal.Gen
open Idealize.ShloMosaic Idealize.ShloMosaic.TcCoe

/-! ## Neighbours -/

/-- The device before `c` in its ring of four. -/
def lf (c : Dev nD) : Dev nD := ⟨4 * (c.val / 4) + (c.val % 4 + 3) % 4, by have := c.isLt; simp only [nD] at *; omega⟩
/-- The device after `c` in its ring of four. -/
def rt (c : Dev nD) : Dev nD := ⟨4 * (c.val / 4) + (c.val % 4 + 1) % 4, by have := c.isLt; simp only [nD] at *; omega⟩
/-- The device at the same place of the other ring. -/
def pr (c : Dev nD) : Dev nD := ⟨(c.val + 4) % 8, by simp only [nD]; omega⟩

theorem lf_rt (c : Dev nD) : lf (rt c) = c := by revert c; decide
theorem rt_lf (c : Dev nD) : rt (lf c) = c := by revert c; decide
theorem pr_pr (c : Dev nD) : pr (pr c) = c := by revert c; decide

/-- The neighbour in direction `0` (left), `1` (right) or `2` (the partner). -/
def nb : Fin 3 → Dev nD → Dev nD := fun | 0 => lf | 1 => rt | 2 => pr
/-- The direction that leads back. -/
def opp : Fin 3 → Fin 3 := fun | 0 => 1 | 1 => 0 | 2 => 2
theorem nb_opp (i : Fin 3) (c : Dev nD) : nb (opp i) (nb i c) = c := by revert i c; decide
theorem nb_opp' (i : Fin 3) (c : Dev nD) : nb i (nb (opp i) c) = c := by revert i c; decide

/-- Going to the neighbour in direction `i`, as a permutation of the mesh. -/
def nbE (i : Fin 3) : Dev nD ≃ Dev nD := ⟨nb i, nb (opp i), nb_opp i, nb_opp' i⟩

/-- The printed device numbers are the neighbours. -/
theorem dev1_eq (c : Dev nD) : (⟨k0_dev1 c, k0_dev1_lt c⟩ : Dev nD) = lf c := by revert c; decide +kernel
theorem dev2_eq (c : Dev nD) : (⟨k0_dev2 c, k0_dev2_lt c⟩ : Dev nD) = rt c := by revert c; decide +kernel
theorem dev3_eq (c : Dev nD) : (⟨k0_dev3 c, k0_dev3_lt c⟩ : Dev nD) = pr c := by revert c; decide +kernel
theorem dev4_eq (c : Dev nD) : (⟨k0_dev4 c, k0_dev4_lt c⟩ : Dev nD) = pr c := by revert c; decide +kernel
theorem dev5_eq (c : Dev nD) : (⟨k0_dev5 c, k0_dev5_lt c⟩ : Dev nD) = rt c := by revert c; decide +kernel
theorem dev6_eq (c : Dev nD) : (⟨k0_dev6 c, k0_dev6_lt c⟩ : Dev nD) = lf c := by revert c; decide +kernel
theorem dev7_eq (c : Dev nD) : (⟨k0_dev7 c, k0_dev7_lt c⟩ : Dev nD) = rt c := by revert c; decide +kernel
theorem dev8_eq (c : Dev nD) : (⟨k0_dev8 c, k0_dev8_lt c⟩ : Dev nD) = lf c := by revert c; decide +kernel
theorem dev9_eq (c : Dev nD) : (⟨k0_dev9 c, k0_dev9_lt c⟩ : Dev nD) = pr c := by revert c; decide +kernel
theorem dev10_eq (c : Dev nD) : (⟨k0_dev10 c, k0_dev10_lt c⟩ : Dev nD) = rt c := by revert c; decide +kernel
theorem dev11_eq (c : Dev nD) : (⟨k0_dev11 c, k0_dev11_lt c⟩ : Dev nD) = pr c := by revert c; decide +kernel
theorem dev12_eq (c : Dev nD) : (⟨k0_dev12 c, k0_dev12_lt c⟩ : Dev nD) = lf c := by revert c; decide +kernel
theorem dev13_eq (c : Dev nD) : (⟨k0_dev13 c, k0_dev13_lt c⟩ : Dev nD) = rt c := by revert c; decide +kernel
theorem dev14_eq (c : Dev nD) : (⟨k0_dev14 c, k0_dev14_lt c⟩ : Dev nD) = lf c := by revert c; decide +kernel

/-- The device opposite `c` in its ring. -/
abbrev op (c : Dev nD) : Dev nD := lf (lf c)

/-! ## The eleven transfers, in the order a device issues them -/

/-- The direction of a transfer. -/
def dirOf : Fin 11 → Fin 3 :=
  fun | 0 => 2 | 1 => 1 | 2 => 0 | 3 => 1 | 4 => 0 | 5 => 2 | 6 => 1 | 7 => 2 | 8 => 0 | 9 => 1 | 10 => 0
/-- The device a transfer of `c` goes to, -/
def tgt (t : Fin 11) (c : Dev nD) : Dev nD := nb (dirOf t) c
/-- the device whose transfer comes to `c`. -/
def frm (t : Fin 11) (c : Dev nD) : Dev nD := nb (opp (dirOf t)) c
theorem frm_tgt (t : Fin 11) (c : Dev nD) : frm t (tgt t c) = c := nb_opp _ _
theorem tgt_frm (t : Fin 11) (c : Dev nD) : tgt t (frm t c) = c := nb_opp' _ _

/-- The device whose block of `x` the transfer carries a piece of. -/
def org (t : Fin 11) (c : Dev nD) : Dev nD :=
  match t with
  | 0 => c | 1 => c | 2 => c | 3 => pr c | 4 => pr c | 5 => lf c | 6 => lf c | 7 => rt c | 8 => rt c
  | 9 => pr (lf c) | 10 => pr (rt c)

/-- A piece of a block: all its columns, the first half of them, or the second. -/
inductive Part | all | fst | snd
deriving DecidableEq

/-- Which piece of the block the transfer carries. -/
def part : Fin 11 → Part :=
  fun | 0 => .all | 1 => .all | 2 => .all | 3 => .snd | 4 => .fst | 5 => .fst | 6 => .fst | 7 => .snd | 8 => .snd
      | 9 => .fst | 10 => .snd

/-- The semaphore its sending side completes on, -/
def sS : Fin 11 → DmaSem sig :=
  fun | 0 => 3 | 1 => 9 | 2 => 17 | 3 => 10 | 4 => 18 | 5 => 4 | 6 => 11 | 7 => 5 | 8 => 19 | 9 => 12 | 10 => 20
/-- and the one its receiving side does. -/
def rS : Fin 11 → DmaSem sig :=
  fun | 0 => 6 | 1 => 13 | 2 => 21 | 3 => 14 | 4 => 22 | 5 => 7 | 6 => 15 | 7 => 8 | 8 => 23 | 9 => 16 | 10 => 24

/-- Which side of which transfer (`false` sending, `true` receiving) a DMA semaphore is of, if any. -/
def side (q : DmaSem sig) : Option (Bool × Fin 11) :=
  match q with
  | 3 => some (false, 0) | 9 => some (false, 1) | 17 => some (false, 2) | 10 => some (false, 3) | 18 => some (false, 4)
  | 4 => some (false, 5) | 11 => some (false, 6) | 5 => some (false, 7) | 19 => some (false, 8) | 12 => some (false, 9)
  | 20 => some (false, 10)
  | 6 => some (true, 0) | 13 => some (true, 1) | 21 => some (true, 2) | 14 => some (true, 3) | 22 => some (true, 4)
  | 7 => some (true, 5) | 15 => some (true, 6) | 8 => some (true, 7) | 23 => some (true, 8) | 16 => some (true, 9)
  | 24 => some (true, 10)
  | _ => none
theorem side_sS (t : Fin 11) : side (sS t) = some (false, t) := by revert t; decide
theorem side_rS (t : Fin 11) : side (rS t) = some (true, t) := by revert t; decide

/-! ## The gathered array's index sets -/

/-- The indices of the piece `p` of device `o`'s block of rows. -/
def pieceS (o : Dev nD) : Part → Finset S1024x1024.Idx
  | .all => Finset.univ.filter fun i => (i 0).val / 128 = o.val
  | .fst => Finset.univ.filter fun i => (i 0).val / 128 = o.val ∧ (i 1).val / 512 = 0
  | .snd => Finset.univ.filter fun i => (i 0).val / 128 = o.val ∧ (i 1).val / 512 = 1

theorem piece_all (o : Dev nD) : pieceS o .all = pieceS o .fst ∪ pieceS o .snd := by
  ext i
  have h1 : (i 1).val < 1024 := (i 1).isLt
  simp only [pieceS, Finset.mem_union, Finset.mem_filter, Finset.mem_univ, true_and]
  omega
theorem piece_disj (o : Dev nD) : Disjoint (pieceS o .fst) (pieceS o .snd) := by
  rw [Finset.disjoint_left]; intro i hi hj
  simp only [pieceS, Finset.mem_filter, Finset.mem_univ, true_and] at hi hj
  omega
theorem piece_rows_disj {o o' : Dev nD} (h : o ≠ o') : Disjoint (pieceS o .all) (pieceS o' .all) := by
  rw [Finset.disjoint_left]; intro i hi hj
  simp only [pieceS, Finset.mem_filter, Finset.mem_univ, true_and] at hi hj
  exact h (Fin.ext (by omega))
theorem piece_cover : Finset.univ.biUnion (fun o : Dev nD => pieceS o .all) = Finset.univ := by
  ext i
  have h0 : (i 0).val < 1024 := (i 0).isLt
  simp only [Finset.mem_biUnion, Finset.mem_univ, true_and, pieceS, Finset.mem_filter, iff_true]
  exact ⟨⟨(i 0).val / 128, by simp only [nD]; omega⟩, rfl⟩

/-- The eight devices as `c` names them: itself, its neighbours, and the rest through them. -/
def around (c : Dev nD) : List (Dev nD) := [c, pr c, lf c, rt c, pr (lf c), pr (rt c), op c, pr (op c)]
theorem around_nodup (c : Dev nD) : (around c).Nodup := by revert c; decide
theorem around_mem (c d : Dev nD) : d ∈ around c := by revert c d; decide

/-- The offsets of a piece. -/
def offP (o : Dev nD) : Part → Fin 2 → ℕ
  | .all => ![128 * o.val, 0] | .fst => ![128 * o.val, 0] | .snd => ![128 * o.val, 512]

/-- The gathered array, the two other arrays and the staging buffers as views. -/
abbrev gM : Memref sig .tc .vmem S1024x1024 .bf16 := Memref.whole cc0_scratch0
abbrev wbM : Memref sig .tc .vmem S1024x128 .bf16 := Memref.whole cc0_scratch1
abbrev xM : Memref sig .tc .vmem S128x1024 .bf16 := Memref.whole cc0_stg0_0
abbrev wM : Memref sig .tc .vmem S1024x128 .bf16 := Memref.whole cc0_stg1_0
abbrev oM : Memref sig .tc .vmem S1024x128 .f32 := Memref.whole cc0_stg2_0

/-- A whole block of rows is the rectangle of its 128 rows; -/
theorem set_all (o : Dev nD) (off : Fin 2 → ℕ) (h : off = offP o .all) (inb) :
    (Rect.unit (s := S1024x1024) off S128x1024.size inb).set = pieceS o .all := by
  subst h; ext i
  have h1 : (i 1).val < 1024 := (i 1).isLt
  rw [Rect.mem_set_unit]
  simp only [pieceS, Finset.mem_filter, Finset.mem_univ, true_and, Fin.forall_fin_two, offP]
  show (128 * o.val ≤ (i 0).val ∧ (i 0).val < 128 * o.val + 128) ∧ (0 ≤ (i 1).val ∧ (i 1).val < 0 + 1024) ↔ _
  omega
/-- its first half is the rectangle of their first 512 columns, -/
theorem set_fst (o : Dev nD) (off : Fin 2 → ℕ) (h : off = offP o .fst) (inb) :
    (Rect.unit (s := S1024x1024) off S128x512.size inb).set = pieceS o .fst := by
  subst h; ext i
  have h1 : (i 1).val < 1024 := (i 1).isLt
  rw [Rect.mem_set_unit]
  simp only [pieceS, Finset.mem_filter, Finset.mem_univ, true_and, Fin.forall_fin_two, offP]
  show (128 * o.val ≤ (i 0).val ∧ (i 0).val < 128 * o.val + 128) ∧ (0 ≤ (i 1).val ∧ (i 1).val < 0 + 512) ↔ _
  omega
/-- and its second half that of their last 512 columns. -/
theorem set_snd (o : Dev nD) (off : Fin 2 → ℕ) (h : off = offP o .snd) (inb) :
    (Rect.unit (s := S1024x1024) off S128x512.size inb).set = pieceS o .snd := by
  subst h; ext i
  have h1 : (i 1).val < 1024 := (i 1).isLt
  rw [Rect.mem_set_unit]
  simp only [pieceS, Finset.mem_filter, Finset.mem_univ, true_and, Fin.forall_fin_two, offP]
  show (128 * o.val ≤ (i 0).val ∧ (i 0).val < 128 * o.val + 128) ∧ (512 ≤ (i 1).val ∧ (i 1).val < 512 + 512) ↔ _
  omega

/-! The printed offsets the generated closed forms leave out. -/

theorem off1_c (c : Dev nD) : k0_off1 c = offP c .all := by revert c; decide +kernel
theorem off2_c (c : Dev nD) : k0_off2 c = offP c .all := by revert c; decide +kernel
theorem off3_c (c : Dev nD) : k0_off3 c = offP c .all := by revert c; decide +kernel
theorem off4_c (c : Dev nD) : k0_off4 c = offP (pr c) .all := by revert c; decide +kernel
theorem off7_c (c : Dev nD) : k0_off7 c = offP (pr c) .all := by revert c; decide +kernel
theorem off8_c (c : Dev nD) : k0_off8 c = offP (pr c) .all := by revert c; decide +kernel
theorem off5_c (c : Dev nD) : k0_off5 c = offP (pr c) .snd := by revert c; decide +kernel
theorem off6_c (c : Dev nD) : k0_off6 c = offP (pr c) .fst := by revert c; decide +kernel
theorem off9_3 (c : Dev nD) : k0_off9 c 3#32 = offP (lf c) .all := by revert c; decide +kernel
theorem off9_1 (c : Dev nD) : k0_off9 c 1#32 = offP (rt c) .all := by revert c; decide +kernel
theorem off10_3 (c : Dev nD) : k0_off10 c 3#32 = offP (lf c) .fst := by revert c; decide +kernel
theorem off10_2 (c : Dev nD) : k0_off10 c 2#32 = offP (op c) .fst := by revert c; decide +kernel
theorem off11_3 (c : Dev nD) : k0_off11 c 3#32 = offP (lf c) .all := by revert c; decide +kernel
theorem off11_1 (c : Dev nD) : k0_off11 c 1#32 = offP (rt c) .all := by revert c; decide +kernel
theorem off11_2 (c : Dev nD) : k0_off11 c 2#32 = offP (op c) .all := by revert c; decide +kernel
theorem off12_3 (c : Dev nD) : k0_off12 c 3#32 = offP (lf c) .all := by revert c; decide +kernel
theorem off12_1 (c : Dev nD) : k0_off12 c 1#32 = offP (rt c) .all := by revert c; decide +kernel
theorem off12_2 (c : Dev nD) : k0_off12 c 2#32 = offP (op c) .all := by revert c; decide +kernel
theorem off13_1 (c : Dev nD) : k0_off13 c 1#32 = offP (rt c) .snd := by revert c; decide +kernel
theorem off13_2 (c : Dev nD) : k0_off13 c 2#32 = offP (op c) .snd := by revert c; decide +kernel
theorem off14_3 (c : Dev nD) : k0_off14 c 3#32 = offP (pr (lf c)) .fst := by revert c; decide +kernel
theorem off14_1 (c : Dev nD) : k0_off14 c 1#32 = offP (pr (rt c)) .fst := by revert c; decide +kernel
theorem off14_2 (c : Dev nD) : k0_off14 c 2#32 = offP (pr (op c)) .fst := by revert c; decide +kernel
theorem off15_3 (c : Dev nD) : k0_off15 c 3#32 = offP (pr (lf c)) .snd := by revert c; decide +kernel
theorem off15_1 (c : Dev nD) : k0_off15 c 1#32 = offP (pr (rt c)) .snd := by revert c; decide +kernel
theorem off15_2 (c : Dev nD) : k0_off15 c 2#32 = offP (pr (op c)) .snd := by revert c; decide +kernel
theorem off16_3 (c : Dev nD) : k0_off16 c 3#32 = offP (pr (lf c)) .all := by revert c; decide +kernel
theorem off16_1 (c : Dev nD) : k0_off16 c 1#32 = offP (pr (rt c)) .all := by revert c; decide +kernel
theorem off16_2 (c : Dev nD) : k0_off16 c 2#32 = offP (pr (op c)) .all := by revert c; decide +kernel
theorem off17_3 (c : Dev nD) : k0_off17 c 3#32 = offP (pr (lf c)) .all := by revert c; decide +kernel
theorem off17_1 (c : Dev nD) : k0_off17 c 1#32 = offP (pr (rt c)) .all := by revert c; decide +kernel
theorem off17_2 (c : Dev nD) : k0_off17 c 2#32 = offP (pr (op c)) .all := by revert c; decide +kernel

end Cert.GatherMatmul

end
-- ==== Proof.Sched.lean ====
/-
# The protocol of the gathering matmul: contents, schedule, dues and levels

What each semaphore is for. A device's BARRIER cell is signalled once by each of its three neighbours; with its
signal a neighbour hands over the pieces of its own gathered array that the device will write. A device's eleven
SEND cells each hand back the share of the piece a transfer read; its eleven RECEIVE cells each hand over the piece
that landed, at the contents of the gathered array. Every cell has one round. The waits are ordered by level:
the barrier, then the receive cells in three steps.
-/
module

public import proofs.«01_k».proof.Proof.Mesh
public import Idealize.ShloMosaic.Lib.Pointwise.Index
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's resource: rounds whose duties are named by a direction. -/
abbrev UB : Type := URounds (GSem nD τ sig) (Fin 3)
/-- The pipeline's resource and the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- The runtime's barrier semaphore. -/
abbrev barS : Sem sig := (SemArray.scalar (sig.barrier 0 rfl) : Sems sig S_).sem
abbrev barCell (c : Dev nD) : GSem nD τ sig := ((c : Thread nD τ), .reg barS)
/-- The cell a transfer of `c` completes on at its sending side, -/
abbrev sCell (c : Dev nD) (t : Fin 11) : GSem nD τ sig := ((c : Thread nD τ), .dma (sS t))
/-- and the cell a transfer into `c` completes on at its receiving side. -/
abbrev rCell (c : Dev nD) (t : Fin 11) : GSem nD τ sig := ((c : Thread nD τ), .dma (rS t))

/-- The kernel's own semaphores, by side and transfer; -/
abbrev osem : Bool × Fin 11 → SemLoc sig := fun bt => .dma (cond bt.1 (rS bt.2) (sS bt.2))
/-- with the barrier, all of the protocol's. -/
abbrev csem : Option (Bool × Fin 11) → SemLoc sig := fun | none => .reg barS | some bt => osem bt
abbrev kcell (ck : Dev nD × Option (Bool × Fin 11)) : GSem nD τ sig := ((ck.1 : Thread nD τ), csem ck.2)

/-! ## Contents -/

/-- Device `c`'s block of `x`, as its staging buffer holds it, -/
def xstg (c : Dev nD) : (cc0_stg0_0 : Ref sig .tc).ty.Contents (Elt F) :=
  (win0_0.blk (0 : Fin 1)).view.read (Elt F) (m ((c : Thread nD τ).loc main_arg0))
/-- and its block of `w`. -/
def wstg (c : Dev nD) : (cc0_stg1_0 : Ref sig .tc).ty.Contents (Elt F) :=
  (win0_1.blk (0 : Fin 1)).view.read (Elt F) (m ((c : Thread nD τ).loc main_arg1))

/-- The device whose block of rows holds row `r`. -/
def ownerOf (r : Fin 1024) : Dev nD := ⟨r.val / 128, by have := r.isLt; simp only [nD]; omega⟩
/-- A row's place in its block. -/
def inBlock (r : Fin 1024) : Fin 128 := ⟨r.val % 128, Nat.mod_lt _ (by decide)⟩

/-- The gathered array: every device's block of `x`, one under the other. The same on every device. -/
def gat : (cc0_scratch0 : Ref sig .tc).ty.Contents (Elt F) :=
  fun (i : S1024x1024.Idx) => xstg m (ownerOf (i 0)) (ix2 (inBlock (i 0)) (i 1))

/-- The result on device `c`: each block of rows is that device's block of `x` times `c`'s block of `w`. -/
def outAt (c : Dev nD) : (cc0_stg2_0 : Ref sig .tc).ty.Contents (Elt F) :=
  fun (i : S1024x128.Idx) => k0_pay3 (xstg m (ownerOf (i 0))) (wstg m c) (ix2 (inBlock (i 0)) (i 1))

/-- The elements `S` of device `c`'s gathered array, at share `q` and contents `f`. -/
def pts (c : Dev nD) (S : Finset S1024x1024.Idx) (q : PosShare TreeShare) (f : (cc0_scratch0 : Ref sig .tc).ty.Contents (Elt F)) : sProp 𝕄 :=
  ((c : Thread nD τ).loc cc0_scratch0) ↦[S]{q} f

omit [FloatOps F] in
instance pts_storable (c : Dev nD) (S q f) : BI.Storable (upEmb : UEmb _ 𝕄) (pts (F := F) c S q f) := by unfold pts; infer_instance

/-! ## The schedule -/

/-- The share of its source a transfer reads with: of the half of the array's share that is lent out, all of it, or
    a part where several transfers read one piece at a time. -/
def shr : Fin 11 → PosShare TreeShare :=
  fun | 0 => fullShare.right.left | 1 => fullShare.right.right.left | 2 => fullShare.right.right.right
      | 3 => fullShare.right | 4 => fullShare.right
      | 5 => fullShare.right.left | 6 => fullShare.right.right
      | 7 => fullShare.right.left | 8 => fullShare.right.right
      | 9 => fullShare.right | 10 => fullShare.right

/-- The elements transfer `t` of device `c` moves. -/
def movS (t : Fin 11) (c : Dev nD) : Finset S1024x1024.Idx := pieceS (org t c) (part t)

/-- The units a transfer counts: a whole block of rows' or half of one's. -/
def amtP : Part → ℕ
  | .all => (cc0_scratch0 : Ref sig .tc).dmaCredit S128x1024 .bf16
  | .fst => (cc0_scratch0 : Ref sig .tc).dmaCredit S128x512 .bf16
  | .snd => (cc0_scratch0 : Ref sig .tc).dmaCredit S128x512 .bf16
def amtT (t : Fin 11) : ℕ := amtP (part t)
theorem amtT_pos (t : Fin 11) : 0 < amtT t := by revert t; decide

/-- What the source lends: the share of the piece `c`'s transfer `t` reads. -/
def sendPay (c : Dev nD) (t : Fin 11) : sProp 𝕄 := pts c (movS t c) (shr t) (gat m)
/-- What lands: the piece transfer `t` brings to `c`, all of it. -/
def recvPay (c : Dev nD) (t : Fin 11) : sProp 𝕄 := pts c (movS t (frm t c)) fullShare (gat m)
/-- The room for transfer `t` of `c` on its target. -/
def room (c : Dev nD) (t : Fin 11) : sProp 𝕄 := iprop(∃ f, pts (tgt t c) (movS t c) fullShare f)

/-- The transfers in a direction. -/
def tsOf : Fin 3 → List (Fin 11) := fun | 0 => [2, 4, 8, 10] | 1 => [1, 3, 6, 9] | 2 => [0, 5, 7]

/-- What the signal from the neighbour in direction `i` of `c` brings: room for all of `c`'s transfers there. -/
def barPay (c : Dev nD) (i : Fin 3) : sProp 𝕄 := bigSepL (tsOf i) (room c)

def dutiesOf : SemLoc sig → Finset (Fin 3)
  | .reg s => if s = barS then Finset.univ else ∅
  | .dma q => if (side q).isSome then {0} else ∅
def amtOf : SemLoc sig → ℕ
  | .reg _ => 1
  | .dma q => match side q with | some (_, t) => amtT t | none => 1
def payOf (c : Dev nD) : SemLoc sig → Fin 3 → sProp 𝕄
  | .reg _, i => barPay c i
  | .dma q, _ => match side q with | some (false, t) => sendPay m c t | some (true, t) => recvPay m c t | none => iprop(emp)

/-- One round: a barrier cell has a duty of one unit per direction, a send or receive cell one duty of its transfer's
    units. -/
def sched : Rounds.Schedule (GSem nD τ sig) (Fin 3) 𝕄 where
  duties g r := if r = 0 ∧ g.1.2 = .tc then dutiesOf g.2 else ∅
  amount g _ _ := amtOf g.2
  payload g _ i := payOf m g.1.1 g.2 i
  amount_pos g _ _ _ := by
    rcases g with ⟨_, s | q⟩
    · exact Nat.one_pos
    · show 0 < (match side q with | some (_, t) => amtT t | none => 1)
      split
      · exact amtT_pos _
      · exact Nat.one_pos

omit [FloatOps F] in
theorem bigSepL_storable {I : Type} (l : List I) (Φ : I → sProp 𝕄) (h : ∀ i, BI.Storable (upEmb : UEmb _ 𝕄) (Φ i)) :
    BI.Storable (upEmb : UEmb _ 𝕄) (bigSepL l Φ) := by
  induction l with
  | nil => exact (inferInstance : BI.Storable upEmb (iprop(emp) : sProp 𝕄))
  | cons a l ih => rw [bigSepL_cons']; have := h a; infer_instance

omit [FloatOps F] in
instance room_storable (c : Dev nD) (t) : BI.Storable (upEmb : UEmb _ 𝕄) (room (F := F) c t) := by unfold room; infer_instance

instance sched_payload_storable (g : GSem nD τ sig) (r : ℕ) (d : Fin 3) :
    BI.Storable (upEmb : UEmb _ 𝕄) ((sched (F := F) m).payload g r d) := by
  rcases g with ⟨p, s | q⟩
  · exact bigSepL_storable _ _ fun t => room_storable _ t
  · show BI.Storable upEmb (match side q with | some (false, t) => sendPay m p.1 t | some (true, t) => recvPay m p.1 t | none => iprop(emp))
    unfold sendPay recvPay
    split <;> infer_instance

section Sched
variable (c : Dev nD) (t : Fin 11)

omit [FloatOps F] in
theorem duties_bar : (sched (F := F) m).duties (barCell c) 0 = Finset.univ := rfl
omit [FloatOps F] in
theorem duties_send : (sched (F := F) m).duties (sCell c t) 0 = {0} := by
  show (if (side (sS t)).isSome then ({0} : Finset (Fin 3)) else ∅) = {0}
  rw [side_sS]; rfl
omit [FloatOps F] in
theorem duties_recv : (sched (F := F) m).duties (rCell c t) 0 = {0} := by
  show (if (side (rS t)).isSome then ({0} : Finset (Fin 3)) else ∅) = {0}
  rw [side_rS]; rfl
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (i : Fin 3) : (sched (F := F) m).amount (barCell c) 0 i = 1 := rfl
omit [FloatOps F] in
theorem amount_send (i : Fin 3) : (sched (F := F) m).amount (sCell c t) 0 i = amtT t := by
  show (match side (sS t) with | some (_, t) => amtT t | none => 1) = _
  rw [side_sS]
omit [FloatOps F] in
theorem amount_recv (i : Fin 3) : (sched (F := F) m).amount (rCell c t) 0 i = amtT t := by
  show (match side (rS t) with | some (_, t) => amtT t | none => 1) = _
  rw [side_rS]

omit [FloatOps F] in
theorem expect_bar : (sched (F := F) m).expect (barCell c) 0 = 3 := by
  unfold Schedule.expect Schedule.amountOf
  rw [duties_bar, Finset.sum_congr rfl fun d _ => amount_bar m c d]; rfl
omit [FloatOps F] in
theorem expect_send : (sched (F := F) m).expect (sCell c t) 0 = amtT t := by
  unfold Schedule.expect Schedule.amountOf; rw [duties_send, Finset.sum_singleton, amount_send]
omit [FloatOps F] in
theorem expect_recv : (sched (F := F) m).expect (rCell c t) 0 = amtT t := by
  unfold Schedule.expect Schedule.amountOf; rw [duties_recv, Finset.sum_singleton, amount_recv]

omit [FloatOps F] in
theorem payload_bar (i : Fin 3) : (sched (F := F) m).payload (barCell c) 0 i = barPay c i := rfl
omit [FloatOps F] in
theorem payload_send (i : Fin 3) : (sched (F := F) m).payload (sCell c t) 0 i = sendPay m c t := by
  show (match side (sS t) with | some (false, t) => sendPay m c t | some (true, t) => recvPay m c t | none => iprop(emp)) = _
  rw [side_sS]
omit [FloatOps F] in
theorem payload_recv (i : Fin 3) : (sched (F := F) m).payload (rCell c t) 0 i = recvPay m c t := by
  show (match side (rS t) with | some (false, t) => sendPay m c t | some (true, t) => recvPay m c t | none => iprop(emp)) = _
  rw [side_rS]

omit [FloatOps F] in
/-- The round of the barrier cell, no duty taken: room for every transfer. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [0, 1, 2] (by decide) (by decide)]; rfl
omit [FloatOps F] in
theorem rest_send : bigSep ((sched (F := F) m).duties (sCell c t) 0 \ ∅) (fun d => (sched (F := F) m).payload (sCell c t) 0 d) = sendPay m c t := by
  rw [Finset.sdiff_empty, duties_send, bigSep_singleton, payload_send]
omit [FloatOps F] in
theorem rest_recv : bigSep ((sched (F := F) m).duties (rCell c t) 0 \ ∅) (fun d => (sched (F := F) m).payload (rCell c t) 0 d) = recvPay m c t := by
  rw [Finset.sdiff_empty, duties_recv, bigSep_singleton, payload_recv]

end Sched

/-! ## Dues and levels -/

/-- One thing a device pays: a barrier signal in a direction, or a transfer. -/
abbrev Pay : Type := Fin 3 ⊕ Fin 11
def payTo (c : Dev nD) : Pay → Dev nD | .inl i => nb i c | .inr t => tgt t c
def paySem : Pay → SemLoc sig | .inl _ => .reg barS | .inr t => .dma (rS t)
def payAmt : Pay → ℕ | .inl _ => 1 | .inr t => amtT t

/-- What device `c` owes while the payments `l` are to come, the next at the head. -/
def dues (c : Dev nD) : List Pay → CellTallies nD τ sig Unit
  | [] => 0
  | p :: l => dues c l + tallyAt ((payTo c p : Thread nD τ), paySem p) () (payAmt p)

/-- Everything a device pays, in order. -/
def allPays : List Pay :=
  [.inl 0, .inl 1, .inl 2, .inr 0, .inr 1, .inr 2, .inr 3, .inr 4, .inr 5, .inr 6, .inr 7, .inr 8, .inr 9, .inr 10]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a receive cell: which of the three steps of the gather it is of. -/
def step : Fin 11 → ℕ := fun | 0 => 2 | 1 => 2 | 2 => 2 | 9 => 4 | 10 => 4 | _ => 3
/-- Levels: the barrier at 1, receive cells by their step, every other cell at 0. -/
def lvS : SemLoc sig → ℕ
  | .reg _ => 1
  | .dma q => match side q with | some (true, t) => step t | _ => 0
def lv (g : GSem nD τ sig) (_ : Unit) : ℕ := lvS g.2

theorem dues_pos {c : Dev nD} {g : GSem nD τ sig} {u : Unit} (l : List Pay) (h : 0 < dues c l g u) :
    ∃ p ∈ l, g = ((payTo c p : Thread nD τ), paySem p) := by
  induction l with
  | nil => exact absurd h (Nat.lt_irrefl 0)
  | cons p l ih =>
    unfold dues at h
    rw [Pi.add_apply, Finsupp.add_apply, tallyAt_apply] at h
    by_cases hg : g = ((payTo c p : Thread nD τ), paySem p) ∧ u = ()
    · exact ⟨p, List.mem_cons_self, hg.1⟩
    · rw [if_neg hg, Nat.add_zero] at h
      obtain ⟨p', hp', hg'⟩ := ih h
      exact ⟨p', List.mem_cons_of_mem _ hp', hg'⟩

omit [FloatOps F] in
/-- A device may wait on its cell `sm` while everything it still owes is at a higher level. -/
theorem mayWait (c : Dev nD) (sm : SemLoc sig) (l : List Pay) (h : ∀ p ∈ l, lvS sm < lvS (paySem p)) :
    (levAts L lv : sProp 𝕄) ⊢ MayWait (c : Thread nD τ) sm () (dues c l) :=
  Pipeline.mayWait_of_levAts (by rw [L_tc]; exact Finset.mem_singleton_self _) fun g u hg => by
    obtain ⟨p, hp, rfl⟩ := dues_pos l hg
    exact ⟨by rw [L_tc]; exact Finset.mem_singleton_self _, h p hp⟩

omit [FloatOps F] in
/-- The launch's credit under the dues `l` of every device: on each device, the units of each payment. -/
theorem creds (l : List Pay) (c : Dev nD) :
    (Pipeline.launchCred (fun d => dues d l) c : sProp 𝕄)
      ⊢ bigSepL l fun p => cred (tallyAt ((c : Thread nD τ), paySem p) () (payAmt p)) := by
  induction l with
  | nil => exact Entails.of_eq (Pipeline.launchCred_zero c)
  | cons p l ih =>
    rw [bigSepL_cons']
    unfold dues
    rw [Pipeline.launchCred_add]
    iintro ⟨H1, H2⟩
    isplitl [H2]
    · cases p with
      | inl i => iapply (Pipeline.launchCred_tallyAt (SemLoc.reg barS) (nb i) (nb (opp i)) (nb_opp' i) (nb_opp i) () 1 c); iexact H2
      | inr t => iapply (Pipeline.launchCred_tallyAt (SemLoc.dma (rS t)) (tgt t) (frm t) (tgt_frm t) (frm_tgt t) () (amtT t) c); iexact H2
    · iapply ih; iexact H1

end Cert.GatherMatmul

end
-- ==== Proof.Steps.lean ====
/-
# The steps of a device's run: signalling, sending, receiving, giving back

A device's run is a list of payments to make, receives to wait for and sends to give back. `Ctl` is what the device
holds of the protocol at any point after its barrier, and each lemma here advances it by one operation of the
program — stated once for every transfer.
-/
module

public import proofs.«01_k».proof.Proof.Sched

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A site of the protocol: a device and one of its cells. -/
abbrev Site : Type := Dev nD × Option (Bool × Fin 11)

/-- Every cell's invariant, under the names `K`, and that every cell has reached its round. -/
def records (K : Site → ℕ) : sProp 𝕄 :=
  iprop((bigSep Finset.univ fun ck : Site => cellInv ER (sched m) (K ck) (kcell ck))
    ∗ bigSep Finset.univ fun ck : Site => reached ER (kcell ck) 0)

instance records_persistent (K : Site → ℕ) : BI.Persistent (records m K) := by unfold records; infer_instance

omit [FloatOps F] in
theorem inv_at (K : Site → ℕ) (ck : Site) : records m K ⊢ cellInv ER (sched m) (K ck) (kcell ck) := by
  unfold records; iintro ⟨#H, -⟩
  iapply (show (bigSep Finset.univ fun ck : Site => (cellInv ER (sched m) (K ck) (kcell ck) : sProp 𝕄)) ⊢ cellInv ER (sched m) (K ck) (kcell ck)
    from bigSep_elim (Finset.mem_univ ck)); iexact H
omit [FloatOps F] in
theorem reached_at (K : Site → ℕ) (ck : Site) : records m K ⊢ reached ER (kcell ck) 0 := by
  unfold records; iintro ⟨-, #H⟩
  iapply (show (bigSep Finset.univ fun ck : Site => (reached ER (kcell ck) 0 : sProp 𝕄)) ⊢ reached ER (kcell ck) 0
    from bigSep_elim (Finset.mem_univ ck)); iexact H

variable (K : Site → ℕ)

/-- What device `c` holds of a transfer it has yet to send, -/
def toSend (c : Dev nD) (t : Fin 11) : sProp 𝕄 :=
  iprop(dutyTok ER (sCell c t) 0 0 ∗ dutyTok ER (rCell (tgt t c) t) 0 0 ∗ atPos ER (sCell c t) 0 ∅ 0)
/-- of one it has yet to receive, -/
def toRecv (c : Dev nD) (t : Fin 11) : sProp 𝕄 :=
  iprop(atPos ER (rCell c t) 0 ∅ 0 ∗ cred (tallyAt (rCell c t) () (amtT t)))
/-- and of one it has sent and not yet waited for. -/
def sent (c : Dev nD) (t : Fin 11) : sProp 𝕄 :=
  iprop(atPos ER (sCell c t) 0 ∅ 0 ∗ cred (tallyAt (sCell c t) () (amtT t)))

/-- The protocol's state on device `c` after its barrier: the transfers `ts` to send, with the room for them, `rs` to
    receive, `ss` sent and to be waited for; the receive cells `zr` and the send cells `zs` are done with. -/
def Ctl (c : Dev nD) (ts rs ss zr zs : List (Fin 11)) : sProp 𝕄 :=
  iprop(records m K ∗ levAts L lv
    ∗ (∃ W, owes (c : Thread nD τ) (dues c (ts.map .inr)) W)
    ∗ bigSepL ts (toSend c) ∗ bigSepL ts (room c) ∗ bigSepL rs (toRecv c) ∗ bigSepL ss (sent c)
    ∗ bigSepL zr (fun t => semVal (rCell c t) 0) ∗ bigSepL zs (fun t => semVal (sCell c t) 0))

omit [FloatOps F] in
/-- Reading a view and writing what was read through it gives back what was read, wherever the view reaches. -/
theorem landed {sp : Space} {s : Shape} {e : EltTy} (v : View sig .tc sp s e) (fd g : v.ty.Contents (Elt F)) :
    ∀ i ∈ v.set, v.write (Elt F) fd (v.read (Elt F) g) Finset.univ i = g i := fun i hi => by
  rw [View.write_read_eq_piecewise]
  exact Finset.piecewise_eq_of_mem _ _ _ hi

/-- A slice's credit goes by its buffer and its shape. -/
theorem credit_slice (M : Memref sig .tc .vmem S1024x1024 .bf16) (b : Ref sig .tc) (hb : M.view.ref = b) (r : Rect S1024x1024) (hu)
    (s : Shape) (hs : r.shape = s) : (M.slice r hu).view.dmaCredit = b.dmaCredit s .bf16 := by
  subst hb hs; rfl
theorem amtP_all : amtP .all = (cc0_scratch0 : Ref sig .tc).dmaCredit S128x1024 .bf16 := by rw [amtP]
theorem amtP_half : ∀ p : Part, p ≠ .all → amtP p = (cc0_scratch0 : Ref sig .tc).dmaCredit S128x512 .bf16
  | .all, h => absurd rfl h
  | .fst, _ => by rw [amtP]
  | .snd, _ => by rw [amtP]
/-- A whole block of rows is credited as its transfer is, -/
theorem credit_all (t : Fin 11) (ht : part t = .all) (off : Fin 2 → ℕ) (inb : ∀ a, off a + S128x1024.size a ≤ S1024x1024.size a) (hu) :
    (gM.slice (Rect.unit (s := S1024x1024) off S128x1024.size inb) hu).view.dmaCredit = amtT t :=
  (credit_slice gM cc0_scratch0 rfl _ hu S128x1024 rfl).trans (amtP_all.symm.trans (congrArg amtP ht.symm))
/-- and so is a half. -/
theorem credit_half (t : Fin 11) (ht : part t ≠ .all) (off : Fin 2 → ℕ) (inb : ∀ a, off a + S128x512.size a ≤ S1024x1024.size a) (hu) :
    (gM.slice (Rect.unit (s := S1024x1024) off S128x512.size inb) hu).view.dmaCredit = amtT t :=
  (credit_slice gM cc0_scratch0 rfl _ hu S128x512 rfl).trans (amtP_half _ ht).symm

/-- One transfer: the piece's share is lent, the target's room goes with it; a receive's credit is paid off what the
    device owes. Stated for a slice of either size. -/
theorem send_step (c n : Dev nD) (t : Fin 11) (ts rs ss zr zs : List (Fin 11)) (size : Fin 2 → ℕ) (off : Fin 2 → ℕ)
    (inb : ∀ a, off a + size a ≤ S1024x1024.size a)
    {hu : ∀ a, (Rect.unit (s := S1024x1024) off size inb).stride a = 1}
    (hn : n = tgt t c) (hset : (Rect.unit (s := S1024x1024) off size inb).set = movS t c)
    (hN : (gM.slice (Rect.unit (s := S1024x1024) off size inb) hu).view.dmaCredit = amtT t)
    {q₁ q₂ : DmaSem sig} (h₁ : q₁ = sS t) (h₂ : q₂ = rS t)
    {hsc : (gM.slice (Rect.unit (s := S1024x1024) off size inb) hu : Memref sig (Dev.tc n : Thread nD τ).2.kind .vmem _ .bf16).view.ref.isScScratch = false}
    {hsrc : (gM.slice (Rect.unit (s := S1024x1024) off size inb) hu).view.WordExact}
    {hdst : (gM.slice (Rect.unit (s := S1024x1024) off size inb) hu).view.WordExact}
    {hsem : DmaTarget.Typed .vmem (.dma q₂) (.remote (Dev.tc n : Thread nD τ) (gM.slice (Rect.unit (s := S1024x1024) off size inb) hu) (.dma q₁) hsc)}
    {α : Type} {Q : α → sProp 𝕄} {k : PUnit → Prog (TpuEff nD τ sig (Elt F) Λ₀ .tc) α} :
    iprop(Ctl m K c (t :: ts) rs ss zr zs ∗ sendPay m c t)
      ⊢ iprop((Ctl m K c ts rs (ss ++ [t]) zr zs -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gM.slice (Rect.unit (s := S1024x1024) off size inb) hu)
                (.remote (Dev.tc n : Thread nD τ) (gM.slice (Rect.unit (s := S1024x1024) off size inb) hu) (.dma q₁) hsc) (.dma q₂) hsrc hdst hsem) k) Q) := by
  subst hn h₁ h₂
  unfold Ctl
  rw [bigSepL_cons', bigSepL_cons', bigSepL_append, bigSepL_singleton, List.map_cons]
  unfold sent toSend room sendPay pts
  iintro ⟨⟨#HR, #HL, ⟨%W, HO⟩, ⟨⟨HtS, HtV, HaS⟩, Hts⟩, ⟨⟨%fd, Hroom⟩, Hrooms⟩, Hrs, Hss, Hzr, Hzs⟩, Hsrc⟩ Hk
  have hsetv : (gM.slice (Rect.unit (s := S1024x1024) off size inb) hu).view.set = movS t c := (View.set_slice_whole _ _).trans hset
  ihave HIs := (inv_at m K (c, some (false, t))) $$ HR
  ihave HIr := (inv_at m K (tgt t c, some (true, t))) $$ HR
  ihave HRs := (reached_at m K (c, some (false, t))) $$ HR
  ihave HRr := (reached_at m K (tgt t c, some (true, t))) $$ HR
  iapply (Rounds.wp_send_pointsTo 𝒱₀ ER (sched m) (c : Thread nD τ) none (c' := (tgt t c : Thread nD τ)) (κ₁ := K (c, some (false, t))) (κ₂ := K (tgt t c, some (true, t)))
    (src := gM.slice (Rect.unit (s := S1024x1024) off size inb) hu) (dst := gM.slice (Rect.unit (s := S1024x1024) off size inb) hu)
    (sS := .dma (sS t)) (sem := .dma (rS t)) (q := shr t) (fs := gat m) (fd := fd)
    (r₁ := 0) (r₂ := 0) (d₁ := 0) (d₂ := 0)
    (by rw [duties_send]; exact Finset.mem_singleton_self _) (by rw [duties_recv]; exact Finset.mem_singleton_self _)
    () () (amtT t) hN (amount_send m c t 0) (amount_recv m (tgt t c) t 0) (dues c (ts.map .inr)) rfl (W := W)
    (by rw [payload_send, hsetv]; exact BI.Entails.refl _)
    (by
      rw [payload_recv, pointsTo_congr (landed (gM.slice (Rect.unit (s := S1024x1024) off size inb) hu).view fd (gat m)), hsetv]
      unfold recvPay pts; rw [frm_tgt])) $$ [HO HtS HtV Hroom Hsrc HIs HIr HRs HRr]
  · rw [hsetv]
    isplitl [HIs]; · iexact HIs
    isplitl [HIr]; · iexact HIr
    isplitl [Hsrc]; · iexact Hsrc
    isplitl [Hroom]; · iexact Hroom
    isplitl [HO]; · iexact HO
    isplitl [HtS]; · iexact HtS
    isplitl [HRs]; · iexact HRs
    isplitl [HtV]; · iexact HtV
    iexact HRr
  iintro ⟨Hc, HO⟩
  iapply Hk
  isplitr; · iexact HR
  isplitr; · iexact HL
  isplitl [HO]; · iexists W; iexact HO
  isplitl [Hts]; · iexact Hts
  isplitl [Hrooms]; · iexact Hrooms
  isplitl [Hrs]; · iexact Hrs
  isplitl [Hss HaS Hc]
  · isplitl [Hss]; · iexact Hss
    isplitl [HaS]; · iexact HaS
    iexact Hc
  isplitl [Hzr] <;> iassumption

/-- One receive: the wait takes the credit, and the piece that landed comes with it; the cell is done with. -/
theorem recv_step (c : Dev nD) (t : Fin 11) (ts rs ss zr zs : List (Fin 11)) (size : Fin 2 → ℕ) (off : Fin 2 → ℕ)
    (inb : ∀ a, off a + size a ≤ S1024x1024.size a)
    {hu : ∀ a, (Rect.unit (s := S1024x1024) off size inb).stride a = 1}
    (hlv : ∀ t' ∈ ts, step t < step t')
    (hN : (gM.slice (Rect.unit (s := S1024x1024) off size inb) hu).view.dmaCredit = amtT t)
    {q : DmaSem sig} (hq : q = rS t)
    {hsrc : (gM.slice (Rect.unit (s := S1024x1024) off size inb) hu).view.WordExact}
    {hdst : (gM.slice (Rect.unit (s := S1024x1024) off size inb) hu).view.WordExact}
    {α : Type} {Q : α → sProp 𝕄} {k : PUnit → Prog (TpuEff nD τ sig (Elt F) Λ₀ .tc) α} :
    Ctl m K c ts (t :: rs) ss zr zs
      ⊢ iprop((iprop(Ctl m K c ts rs ss (t :: zr) zs ∗ recvPay m c t) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (gM.slice (Rect.unit (s := S1024x1024) off size inb) hu) (gM.slice (Rect.unit (s := S1024x1024) off size inb) hu) hsrc hdst) k) Q) := by
  subst hq
  unfold Ctl
  rw [bigSepL_cons', bigSepL_cons']
  unfold toRecv
  iintro ⟨#HR, #HL, ⟨%W, HO⟩, Hts, Hrooms, ⟨⟨Ha, Hc⟩, Hrs⟩, Hss, Hzr, Hzs⟩ Hk
  ihave #HI := (inv_at m K (c, some (true, t))) $$ HR
  iapply (Rounds.wp_wait_rest_token 𝒱₀ ER (sched m) (c : Thread nD τ) none (κ := K (c, some (true, t)))
      (wpE_waitDma2_eq 𝒱₀ (c : Thread nD τ) none Set.univ) (Set.mem_univ _) () (O := dues c (ts.map .inr)) (W := W) (R := 0) (m := 0) (T := ∅)
      (by rw [Nat.zero_add, expect_recv]; exact hN)) $$ [Hc HO Ha]
  · rw [hN]
    isplitr; · iexact HI
    isplitl [Hc]; · iexact Hc
    isplitl [HO]; · iexact HO
    isplitr
    · iapply (mayWait c (.dma (rS t)) (ts.map .inr) (fun p hp => by
        obtain ⟨t', ht', rfl⟩ := List.mem_map.mp hp
        show (match side (rS t) with | some (true, t) => step t | _ => 0) < (match side (rS t') with | some (true, t) => step t | _ => 0)
        rw [side_rS, side_rS]; exact hlv t' ht')); iexact HL
    iexact Ha
  iintro ⟨HO, Ha, -, Hpay⟩
  ihave Hp := (Entails.of_eq (rest_recv m c t)) $$ Hpay
  imod (Rounds.cell_close ER (sched m) (Set.mem_univ (K (c, some (true, t)))) (fun h => h) (R := 0 + 1) (duties_later m (rCell c t))) $$ [Ha] with Hz
  · isplitr; · iexact HI
    iexact Ha
  iapply Hk
  isplitr [Hp]
  · isplitr; · iexact HR
    isplitr; · iexact HL
    isplitl [HO]; · iexists _; iexact HO
    isplitl [Hts]; · iexact Hts
    isplitl [Hrooms]; · iexact Hrooms
    isplitl [Hrs]; · iexact Hrs
    isplitl [Hss]; · iexact Hss
    isplitl [Hzr Hz]
    · isplitl [Hz] <;> iassumption
    iexact Hzs
  iexact Hp

/-- One send given back: the wait on its send cell returns the share it read with; the cell is done with. -/
theorem back_step (c : Dev nD) (t : Fin 11) (rs ss zr zs : List (Fin 11)) (size : Fin 2 → ℕ) (off : Fin 2 → ℕ)
    (inb : ∀ a, off a + size a ≤ S1024x1024.size a)
    {hu : ∀ a, (Rect.unit (s := S1024x1024) off size inb).stride a = 1}
    (hN : (gM.slice (Rect.unit (s := S1024x1024) off size inb) hu).view.dmaCredit = amtT t)
    {q : DmaSem sig} (hq : q = sS t)
    {hsrc : (gM.slice (Rect.unit (s := S1024x1024) off size inb) hu).view.WordExact}
    {hdst : (gM.slice (Rect.unit (s := S1024x1024) off size inb) hu).view.WordExact}
    {α : Type} {Q : α → sProp 𝕄} {k : PUnit → Prog (TpuEff nD τ sig (Elt F) Λ₀ .tc) α} :
    Ctl m K c [] rs (t :: ss) zr zs
      ⊢ iprop((iprop(Ctl m K c [] rs ss zr (t :: zs) ∗ sendPay m c t) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (gM.slice (Rect.unit (s := S1024x1024) off size inb) hu) (gM.slice (Rect.unit (s := S1024x1024) off size inb) hu) hsrc hdst) k) Q) := by
  subst hq
  unfold Ctl
  rw [bigSepL_cons', bigSepL_cons']
  unfold sent
  iintro ⟨#HR, #HL, ⟨%W, HO⟩, Hts, Hrooms, Hrs, ⟨⟨Ha, Hc⟩, Hss⟩, Hzr, Hzs⟩ Hk
  ihave #HI := (inv_at m K (c, some (false, t))) $$ HR
  iapply (Rounds.wp_wait_rest_token 𝒱₀ ER (sched m) (c : Thread nD τ) none (κ := K (c, some (false, t)))
      (wpE_waitDma2_eq 𝒱₀ (c : Thread nD τ) none Set.univ) (Set.mem_univ _) () (O := dues c (([] : List (Fin 11)).map .inr)) (W := W) (R := 0) (m := 0) (T := ∅)
      (by rw [Nat.zero_add, expect_send]; exact hN)) $$ [Hc HO Ha]
  · rw [hN]
    isplitr; · iexact HI
    isplitl [Hc]; · iexact Hc
    isplitl [HO]; · iexact HO
    isplitr; · iapply (mayWait c (.dma (sS t)) [] (fun p hp => absurd hp List.not_mem_nil)); iexact HL
    iexact Ha
  iintro ⟨HO, Ha, -, Hpay⟩
  ihave Hp := (Entails.of_eq (rest_send m c t)) $$ Hpay
  imod (Rounds.cell_close ER (sched m) (Set.mem_univ (K (c, some (false, t)))) (fun h => h) (R := 0 + 1) (duties_later m (sCell c t))) $$ [Ha] with Hz
  · isplitr; · iexact HI
    iexact Ha
  iapply Hk
  isplitr [Hp]
  · isplitr; · iexact HR
    isplitr; · iexact HL
    isplitl [HO]; · iexists _; iexact HO
    isplitl [Hts]; · iexact Hts
    isplitl [Hrooms]; · iexact Hrooms
    isplitl [Hrs]; · iexact Hrs
    isplitl [Hss]; · iexact Hss
    isplitl [Hzr]; · iexact Hzr
    isplitl [Hz] <;> iassumption
  iexact Hp

end Cert.GatherMatmul

end
-- ==== Proof.Rows.lean ====
/-
# The gathered array in rows and pieces, and the multiplication of one block of rows

How a device's gathered array divides: into its own block of rows and the pieces its eleven incoming transfers
bring. How a block that has arrived divides into the share kept for reading and the shares its outgoing transfers
read with. And one block's multiplication: read the block and `w`, write the block of the result.
-/
module

public import proofs.«01_k».proof.Proof.Steps

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Dividing -/

section Divide
variable (c : Dev nD) (q : PosShare TreeShare) (f : (cc0_scratch0 : Ref sig .tc).ty.Contents (Elt F))

omit [FloatOps F] in
/-- A share is its two halves. -/
theorem pts_share (S : Finset S1024x1024.Idx) : pts c S q f = iprop(pts c S q.left f ∗ pts c S q.right f) :=
  BI.Entails.antisymm (pointsTo_share (PosShare.mem_left_op_right q)).1 (pointsTo_share (PosShare.mem_left_op_right q)).2
omit [FloatOps F] in
/-- A block of rows is its two halves. -/
theorem pts_row (o : Dev nD) : pts c (pieceS o .all) q f = iprop(pts c (pieceS o .fst) q f ∗ pts c (pieceS o .snd) q f) := by
  rw [piece_all]
  exact BI.Entails.antisymm (pointsTo_union (piece_disj o)).1 (pointsTo_union (piece_disj o)).2
omit [FloatOps F] in
/-- The array is its eight blocks of rows. -/
theorem pts_rows : pts c Finset.univ q f = bigSepL (around c) fun o => pts c (pieceS o .all) q f := by
  have h := pointsTo_biUnion (ℓ := (c : Thread nD τ).loc cc0_scratch0) (q := q) (f := f) (Val := Elt F) (Ix := Unit) (Name := ℕ) (U := UU) (Lvl := ℕ)
    (Finset.univ : Finset (Dev nD)) (fun o => pieceS o .all) (fun o _ o' _ hne => piece_rows_disj hne)
  have h2 : (((c : Thread nD τ).loc cc0_scratch0) ↦[Finset.univ.biUnion fun o : Dev nD => pieceS o .all]{q} f : sProp 𝕄) = pts c Finset.univ q f := by
    rw [piece_cover]; rfl
  rw [← h2]
  refine h.trans ?_
  exact bigSep_univ_eq_bigSepL (around c) (by ext d; simp only [Finset.mem_univ, List.mem_toFinset, around_mem]) (around_nodup c) _
end Divide

theorem lf_pr (c : Dev nD) : lf (pr c) = pr (lf c) := by revert c; decide
theorem rt_pr (c : Dev nD) : rt (pr c) = pr (rt c) := by revert c; decide
theorem rt_rt (c : Dev nD) : rt (rt c) = op c := by revert c; decide

/-- What each transfer brings to `c`, by the place of the block's owner. -/
theorem in0 (c : Dev nD) : movS 0 (frm 0 c) = pieceS (pr c) .all := rfl
theorem in1 (c : Dev nD) : movS 1 (frm 1 c) = pieceS (lf c) .all := rfl
theorem in2 (c : Dev nD) : movS 2 (frm 2 c) = pieceS (rt c) .all := rfl
theorem in3 (c : Dev nD) : movS 3 (frm 3 c) = pieceS (pr (lf c)) .snd := rfl
theorem in4 (c : Dev nD) : movS 4 (frm 4 c) = pieceS (pr (rt c)) .fst := rfl
theorem in5 (c : Dev nD) : movS 5 (frm 5 c) = pieceS (pr (lf c)) .fst := by rw [← lf_pr]; rfl
theorem in6 (c : Dev nD) : movS 6 (frm 6 c) = pieceS (op c) .fst := rfl
theorem in7 (c : Dev nD) : movS 7 (frm 7 c) = pieceS (pr (rt c)) .snd := by rw [← rt_pr]; rfl
theorem in8 (c : Dev nD) : movS 8 (frm 8 c) = pieceS (op c) .snd := by rw [← rt_rt]; rfl
theorem in9 (c : Dev nD) : movS 9 (frm 9 c) = pieceS (pr (op c)) .fst := rfl
theorem in10 (c : Dev nD) : movS 10 (frm 10 c) = pieceS (pr (op c)) .snd := by rw [← rt_rt]; rfl

omit [FloatOps F] in
/-- The array is `c`'s own block and what its eleven incoming transfers bring, listed by the neighbour that sends. -/
theorem pts_pieces (c : Dev nD) (q : PosShare TreeShare) (f : (cc0_scratch0 : Ref sig .tc).ty.Contents (Elt F)) :
    pts c Finset.univ q f = iprop(pts c (pieceS c .all) q f
      ∗ (bigSepL (tsOf 0) fun t => pts c (movS t (frm t c)) q f) ∗ (bigSepL (tsOf 1) fun t => pts c (movS t (frm t c)) q f)
      ∗ bigSepL (tsOf 2) fun t => pts c (movS t (frm t c)) q f) := by
  rw [pts_rows]
  simp only [around, tsOf, bigSepL_cons', bigSepL_nil, in0, in1, in2, in3, in4, in5, in6, in7, in8, in9, in10]
  rw [pts_row c q f (pr (lf c)), pts_row c q f (pr (rt c)), pts_row c q f (op c), pts_row c q f (pr (op c))]
  refine BI.Entails.antisymm (show _ ⊢ (_ : sProp 𝕄) from ?_) (show _ ⊢ (_ : sProp 𝕄) from ?_)
  · iintro ⟨H0, H1, H2, H3, ⟨H4, H5⟩, ⟨H6, H7⟩, ⟨H8, H9⟩, ⟨H10, H11⟩, -⟩
    iframe
    isplitr; · iempintro
    isplitr <;> iempintro
  · iintro ⟨H0, ⟨H1, H2, H3, H4, -⟩, ⟨H5, H6, H7, H8, -⟩, H9, H10, H11, -⟩
    iframe
    iempintro

/-- The share of block `o` device `c` keeps for its own reading. -/
def kept (c o : Dev nD) : sProp 𝕄 := pts c (pieceS o .all) fullShare.left (gat m)
/-- The other share of a piece, where no transfer reads it. -/
def spare (c o : Dev nD) (p : Part) : sProp 𝕄 := pts c (pieceS o p) fullShare.right (gat m)

section Lend
variable (c : Dev nD)

omit [FloatOps F] in
/-- Its own block goes out by three transfers; -/
theorem lend_own : pts c (pieceS c .all) fullShare (gat m) = iprop(kept m c c ∗ sendPay m c 0 ∗ sendPay m c 1 ∗ sendPay m c 2) := by
  rw [pts_share, pts_share c fullShare.right, pts_share c fullShare.right.right]; rfl
omit [FloatOps F] in
/-- its partner's by two, a half each; -/
theorem lend_pr : recvPay m c 0 = iprop(kept m c (pr c) ∗ sendPay m c 4 ∗ sendPay m c 3) := by
  unfold recvPay; rw [in0, pts_share, pts_row c fullShare.right]; rfl
omit [FloatOps F] in
/-- its left neighbour's by two, both reading the first half; -/
theorem lend_lf : recvPay m c 1 = iprop(kept m c (lf c) ∗ (sendPay m c 5 ∗ sendPay m c 6) ∗ spare m c (lf c) .snd) := by
  unfold recvPay; rw [in1, pts_share, pts_row c fullShare.right, pts_share c fullShare.right (gat m) (pieceS (lf c) .fst)]; rfl
omit [FloatOps F] in
/-- its right neighbour's by two, both reading the second half; -/
theorem lend_rt : recvPay m c 2 = iprop(kept m c (rt c) ∗ spare m c (rt c) .fst ∗ (sendPay m c 7 ∗ sendPay m c 8)) := by
  unfold recvPay; rw [in2, pts_share, pts_row c fullShare.right, pts_share c fullShare.right (gat m) (pieceS (rt c) .snd)]; rfl
omit [FloatOps F] in
/-- its left neighbour's partner's, as soon as its first half is here, by one reading that half; -/
theorem lend_plf : recvPay m c 5 = iprop(pts c (pieceS (pr (lf c)) .fst) fullShare.left (gat m) ∗ sendPay m c 9) := by
  unfold recvPay; rw [in5, pts_share]; rfl
omit [FloatOps F] in
theorem join_plf : iprop(pts c (pieceS (pr (lf c)) .fst) fullShare.left (gat m) ∗ recvPay m c 3)
    = iprop(kept m c (pr (lf c)) ∗ spare m c (pr (lf c)) .snd) := by
  unfold recvPay kept; rw [in3, pts_share c fullShare, pts_row]
  refine BI.Entails.antisymm (show _ ⊢ (_ : sProp 𝕄) from ?_) (show _ ⊢ (_ : sProp 𝕄) from ?_)
  · unfold spare; iintro ⟨H0, H1, H2⟩; iframe
  · unfold spare; iintro ⟨⟨H0, H1⟩, H2⟩; iframe
omit [FloatOps F] in
/-- its right neighbour's partner's, in two halves, by one reading the second; -/
theorem lend_prt : iprop(recvPay m c 4 ∗ recvPay m c 7) = iprop(kept m c (pr (rt c)) ∗ spare m c (pr (rt c)) .fst ∗ sendPay m c 10) := by
  unfold recvPay; rw [in4, in7, ← pts_row, pts_share, pts_row c fullShare.right]; rfl
omit [FloatOps F] in
/-- and the last two blocks, in two halves each, by none. -/
theorem lend_op : iprop(recvPay m c 6 ∗ recvPay m c 8) = iprop(kept m c (op c) ∗ spare m c (op c) .all) := by
  unfold recvPay; rw [in6, in8, ← pts_row, pts_share]; rfl
omit [FloatOps F] in
theorem lend_pop : iprop(recvPay m c 9 ∗ recvPay m c 10) = iprop(kept m c (pr (op c)) ∗ spare m c (pr (op c)) .all) := by
  unfold recvPay; rw [in9, in10, ← pts_row, pts_share]; rfl

end Lend

/-! ## One block of rows through the arrays -/

theorem ownerOf_row (o : Dev nD) (r : Fin 1024) (x : Fin 128) (h : r.val = 128 * o.val + x.val) : ownerOf r = o ∧ inBlock r = x := by
  have hx := x.isLt
  exact ⟨Fin.ext (by simp only [ownerOf]; omega), Fin.ext (by simp only [inBlock]; omega)⟩

omit [FloatOps F] in
/-- Reading block `o` of the gathered array reads `o`'s block of `x`. -/
theorem read_gat (o : Dev nD) (off : Fin 2 → ℕ) (h : off = offP o .all) (inb) :
    ((gM : Memref sig .tc .vmem S1024x1024 .bf16).access (Rect.unit (s := S1024x1024) off S128x1024.size inb)).read (Elt F) (gat m) = xstg m o := by
  subst h
  funext (x : S128x1024.Idx)
  have key : ∀ i : S1024x1024.Idx, (i 0).val = 128 * o.val + (x 0).val → (i 1).val = (x 1).val → gat m i = xstg m o x := by
    intro i h0 h1
    obtain ⟨e1, e2⟩ := ownerOf_row o (i 0) (x 0) h0
    have e3 : i 1 = x 1 := Fin.ext h1
    show xstg m (ownerOf (i 0)) (ix2 (inBlock (i 0)) (i 1)) = _
    rw [e1, e2, e3]
    exact congrArg (xstg m o) (ix2_eta x)
  exact key _ (by show 128 * o.val + 1 * (x 0).val = _; omega) (by show 0 + 1 * (x 1).val = _; omega)

omit [FloatOps F] in
/-- Writing `o`'s block of `x` there makes that block the gathered array's. -/
theorem write_gat (o : Dev nD) (off : Fin 2 → ℕ) (h : off = offP o .all) (inb) (f : (cc0_scratch0 : Ref sig .tc).ty.Contents (Elt F)) :
    ∀ i ∈ pieceS o .all, ((gM : Memref sig .tc .vmem S1024x1024 .bf16).access (Rect.unit (s := S1024x1024) off S128x1024.size inb)).write (Elt F) f (xstg m o) Finset.univ i = gat m i := by
  intro i hi
  rw [← set_all o off h inb] at hi
  rw [← read_gat m o off h inb]
  exact landed ((gM : Memref sig .tc .vmem S1024x1024 .bf16).access (Rect.unit (s := S1024x1024) off S128x1024.size inb)) f (gat m) i
    (by rw [show ((gM : Memref sig .tc .vmem S1024x1024 .bf16).access (Rect.unit (s := S1024x1024) off S128x1024.size inb)).set = _ from View.set_slice_whole _ _]; exact hi)

/-- The result's staging buffer on device `c`, right on the blocks of rows `D`. -/
def done (c : Dev nD) (D : List (Dev nD)) : sProp 𝕄 :=
  iprop(∃ f : (cc0_stg2_0 : Ref sig .tc).ty.Contents (Elt F), ⌜∀ i : S1024x128.Idx, ownerOf (i 0) ∈ D → f i = outAt m c i⌝
    ∗ ((c : Thread nD τ).loc cc0_stg2_0) ↦{fullShare} f)
/-- `c`'s block of `w` in its scratch copy. -/
def wCopy (c : Dev nD) : sProp 𝕄 := ((c : Thread nD τ).loc cc0_scratch1) ↦{fullShare} wstg m c

theorem write_out (c o : Dev nD) (off : Fin 2 → ℕ) (h : off = offP o .all) (inb) (D : List (Dev nD))
    (f : (cc0_stg2_0 : Ref sig .tc).ty.Contents (Elt F)) (hf : ∀ i : S1024x128.Idx, ownerOf (i 0) ∈ D → f i = outAt m c i) :
    ∀ i : S1024x128.Idx, ownerOf (i 0) ∈ o :: D →
      ((oM : Memref sig .tc .vmem S1024x128 .f32).access (Rect.unit (s := S1024x128) off S128x128.size inb)).write (Elt F) f (k0_pay3 (xstg m o) (wstg m c)) Finset.univ i
        = outAt m c i := by
  subst h
  intro i hi
  by_cases ho : ownerOf (i 0) = o
  · have key : ((oM : Memref sig .tc .vmem S1024x128 .f32).access (Rect.unit (s := S1024x128) (offP o .all) S128x128.size inb)).emb (ix2 (inBlock (i 0)) (i 1)) = i := by
      funext a; apply Fin.ext
      have h0 := congrArg Fin.val ho
      simp only [ownerOf] at h0
      have hlt := (i 0).isLt
      match a with
      | ⟨0, _⟩ => show 128 * o.val + 1 * ((i 0).val % 128) = (i 0).val; omega
      | ⟨1, _⟩ => show 0 + 1 * (i 1).val = (i 1).val; omega
    rw [← key, View.write_emb_of_mem _ _ (Finset.mem_univ _), key]
    unfold outAt; rw [ho]; rfl
  · rw [View.write_of_not_mem]
    · exact hf i ((List.mem_cons.mp hi).resolve_left ho)
    · intro hm
      rw [show View.setOn _ Finset.univ = View.set _ from rfl,
        show ((oM : Memref sig .tc .vmem S1024x128 .f32).access (Rect.unit (s := S1024x128) (offP o .all) S128x128.size inb)).set = _ from View.set_slice_whole _ _,
        Rect.mem_set_unit] at hm
      have h0 := hm 0
      have h1 : 128 * o.val ≤ (i 0).val ∧ (i 0).val < 128 * o.val + 128 := h0
      exact ho (Fin.ext (by simp only [ownerOf]; omega))

omit [FloatOps F] in
theorem hz : (![0, 0] : Fin 2 → Nat) = fun _ => 0 := funext fun a => by fin_cases a <;> rfl

/-- One block of rows multiplied: read the block and `w`, write the block of the result. -/
theorem mul_step (c o : Dev nD) (D : List (Dev nD)) (off off' : Fin 2 → ℕ) (h : off = offP o .all) (h' : off' = offP o .all)
    (inb : ∀ a, off a + S128x1024.size a ≤ S1024x1024.size a) (inb' : ∀ a, off' a + S128x128.size a ≤ S1024x128.size a)
    {pay : Vec F S128x1024 .bf16 → Vec F S1024x128 .bf16 → FVec F S128x128 .f32} (hpay : pay = k0_pay3)
    {l1 l2 l3 hx hm}
    {α : Type} {Q : α → sProp 𝕄} {k : PUnit → Prog (TpuEff nD τ sig (Elt F) Λ₀ .tc) α} :
    iprop(kept m c o ∗ wCopy m c ∗ done m c D)
      ⊢ iprop((iprop(kept m c o ∗ wCopy m c ∗ done m c (o :: D)) -∗ wp frame (wpE (defs₀ (F := F)) 𝒱₀ (c : Thread nD τ) none) Set.univ (k ⟨⟩) Q)
          -∗ wp frame (wpE (defs₀ (F := F)) 𝒱₀ (c : Thread nD τ) none) Set.univ
              (.op (.load gM (Rect.unit (s := S1024x1024) off S128x1024.size inb).toLoadRect l1) fun v =>
                .op (.load wbM (Rect.unit (s := S1024x128) ![0, 0] S1024x128.size inb_S1024x128_S1024x128_0_0).toLoadRect l2) fun v' =>
                .op (.load oM (Rect.unit (s := S1024x128) off' S128x128.size inb').toLoadRect l3) fun _ =>
                .op (.store oM (Rect.unit (s := S1024x128) off' S128x128.size inb') (pay v v') Finset.univ hx hm) k) Q) := by
  subst hpay
  unfold kept wCopy done pts
  iintro ⟨Hx, Hw, ⟨%f, %hf, Ho⟩⟩ Hk
  iapply (wp_load_rect 𝒱₀ (c : Thread nD τ) none Set.univ (m := gM) (r := Rect.unit (s := S1024x1024) off S128x1024.size inb)
    (by rw [← set_all o off h inb]; exact (View.set_slice_whole _ _).subset)) $$ Hx
  iintro Hx
  rw [read_gat m o off h inb]
  iapply (wp_load 𝒱₀ (c : Thread nD τ) none Set.univ (m := wbM) (Finset.subset_univ _)) $$ Hw; iintro Hw
  rw [show (wbM : Memref sig .tc .vmem S1024x128 .bf16).view.readAt (Elt F) (Rect.unit (s := S1024x128) ![0, 0] S1024x128.size inb_S1024x128_S1024x128_0_0).toLoadRect (wstg m c) = wstg m c
    from Memref.readAt_unit_zero (Elt F) cc0_scratch1 hz _ _]
  iapply (wp_load 𝒱₀ (c : Thread nD τ) none Set.univ (m := oM) (Finset.subset_univ _)) $$ Ho; iintro Ho
  iapply (wp_store 𝒱₀ (c : Thread nD τ) none Set.univ (m := oM) (r := Rect.unit (s := S1024x128) off' S128x128.size inb') (Mk := Finset.univ) (Finset.subset_univ _)) $$ Ho; iintro Ho
  iapply Hk
  isplitl [Hx]; · iexact Hx
  isplitl [Hw]; · iexact Hw
  iexists _
  isplitr
  · ipureintro; exact write_out m c o off' h' inb' D f hf
  iexact Ho

end Cert.GatherMatmul

end
-- ==== Proof.Enter.lean ====
/-
# Entering: the signals to the three neighbours, the barrier, and the device's own block of rows

With a signal a device hands its neighbour the room for the pieces that neighbour will send it; once three signals are
in, the device holds the room for every piece it sends itself.
-/
module

public import proofs.«01_k».proof.Proof.Rows
public import Idealize.ShloMosaic.Lib.Pipeline.Value

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Site → ℕ)

/-- The transfers in the order a device sends them, -/
abbrev sends : List (Fin 11) := [0, 1, 2, 3, 4, 5, 6, 7, 8, 9, 10]
/-- and in the order it waits for those sent to it. -/
abbrev recvs : List (Fin 11) := [0, 1, 2, 5, 3, 4, 7, 6, 8, 9, 10]

/-- The protocol's state on device `c` before its barrier: the directions `is` to signal. -/
def Ent (c : Dev nD) (is : List (Fin 3)) : sProp 𝕄 :=
  iprop(records m K ∗ levAts L lv
    ∗ (∃ W, owes (c : Thread nD τ) (dues c (is.map .inl ++ sends.map .inr)) W)
    ∗ (bigSepL is fun i => dutyTok ER (barCell (nb i c)) 0 (opp i))
    ∗ atPos ER (barCell c) 0 ∅ 0 ∗ cred (tallyAt (barCell c) () 3)
    ∗ bigSepL sends (toSend c) ∗ bigSepL recvs (toRecv c))

omit [FloatOps F] in
/-- The room a device hands over with its signal in direction `i`: wherever that neighbour's transfers to it land. -/
theorem give_room (c : Dev nD) (i : Fin 3) (f : (cc0_scratch0 : Ref sig .tc).ty.Contents (Elt F)) :
    (bigSepL (tsOf (opp i)) fun t => pts c (movS t (frm t c)) fullShare f) ⊢ barPay (nb i c) (opp i) := by
  unfold barPay
  refine bigSepL_mono fun t ht => ?_
  have hd : dirOf t = opp i := by revert t i; decide
  have h1 : frm t c = nb i c := by unfold frm; rw [hd]; exact congrArg (fun j => nb j c) ((show ∀ i, opp (opp i) = i by decide) i)
  have h2 : tgt t (nb i c) = c := by rw [← h1]; exact tgt_frm t c
  unfold room
  rw [h2, h1]
  iintro H; iexists f; iexact H

/-- One signal. -/
theorem signal_step (c n : Dev nD) (i : Fin 3) (is : List (Fin 3)) (hn : n = nb i c) {s : Sem sig} (hs : s = barS) {k' : ℕ} (hk : k' = 1)
    {α : Type} {Q : α → sProp 𝕄} {k : PUnit → Prog (TpuEff nD τ sig (Elt F) Λ₀ .tc) α} :
    iprop(Ent m K c (i :: is) ∗ barPay (nb i c) (opp i))
      ⊢ iprop((Ent m K c is -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) s k') k) Q) := by
  subst hn hs hk
  unfold Ent
  rw [bigSepL_cons', List.map_cons, List.cons_append]
  iintro ⟨⟨#HR, #HL, ⟨%W, HO⟩, ⟨Ht, Hts⟩, Hrest⟩, Hpay⟩ Hk
  ihave HI := (inv_at m K (nb i c, none)) $$ HR
  ihave Hr := (reached_at m K (nb i c, none)) $$ HR
  iapply (Rounds.wp_signal 𝒱₀ ER (sched m) (c : Thread nD τ) none (dst := (nb i c : Thread nD τ)) (κ := K (nb i c, none))
      (d := opp i) (r := 0) (by rw [duties_bar]; exact Finset.mem_univ _) (amount_bar m (nb i c) (opp i)) ()
      (dues c (is.map .inl ++ sends.map .inr)) rfl (W := W)) $$ [HO Ht Hpay HI Hr]
  · isplitl [HI]; · iexact HI
    isplitl [HO]; · iexact HO
    isplitl [Ht]; · iexact Ht
    isplitl [Hpay]; · rw [payload_bar]; iexact Hpay
    iexact Hr
  iintro HO
  iapply Hk
  isplitr; · iexact HR
  isplitr; · iexact HL
  isplitl [HO]; · iexists W; iexact HO
  isplitl [Hts] <;> iassumption

omit [FloatOps F] in
/-- The room the three neighbours hand over, in the order of the transfers. -/
theorem rooms_sorted (c : Dev nD) : iprop(barPay (F := F) c 0 ∗ barPay c 1 ∗ barPay c 2) ⊢ bigSepL sends (room c) := by
  unfold barPay
  simp only [tsOf, sends, bigSepL_cons', bigSepL_nil]
  iintro ⟨⟨H2, H4, H8, H10, -⟩, ⟨H1, H3, H6, H9, -⟩, H0, H5, H7, -⟩
  iframe
  iempintro

/-- The barrier: three signals are in, and with them the room for every transfer. -/
theorem barrier_step (c : Dev nD) {s : Sem sig} (hs : s = barS) {k' : ℕ} (hk : k' = 3)
    {α : Type} {Q : α → sProp 𝕄} {k : PUnit → Prog (TpuEff nD τ sig (Elt F) Λ₀ .tc) α} :
    Ent m K c []
      ⊢ iprop((iprop(Ctl m K c sends recvs [] [] [] ∗ semVal (barCell c) 0) -∗ wp frame (wpE (defs₀ (F := F)) 𝒱₀ (c : Thread nD τ) none) Set.univ (k ⟨⟩) Q)
          -∗ wp frame (wpE (defs₀ (F := F)) 𝒱₀ (c : Thread nD τ) none) Set.univ (.op (.semWait s k') k) Q) := by
  subst hs hk
  unfold Ent Ctl
  iintro ⟨#HR, #HL, ⟨%W, HO⟩, -, Ha, Hc, Hts, Hrs⟩ Hk
  ihave #HI := (inv_at m K (c, none)) $$ HR
  iapply (Rounds.wp_wait_rest_token 𝒱₀ ER (sched m) (c : Thread nD τ) none (κ := K (c, none))
      (wpE_semWait_eq 𝒱₀ (c : Thread nD τ) none Set.univ) (Set.mem_univ _) () (O := dues c (sends.map .inr)) (W := W) (R := 0) (m := 0) (T := ∅)
      (by rw [expect_bar])) $$ [Hc HO Ha]
  · isplitr; · iexact HI
    isplitl [Hc]; · iexact Hc
    isplitl [HO]; · iexact HO
    isplitr
    · iapply (mayWait c (.reg barS) (sends.map .inr) (fun p hp => by
        obtain ⟨t', ht', rfl⟩ := List.mem_map.mp hp
        show 1 < (match side (rS t') with | some (true, t) => step t | _ => 0)
        rw [side_rS]; clear ht' hp; revert t'; decide)); iexact HL
    iexact Ha
  iintro ⟨HO, Ha, -, Hpay⟩
  ihave Hp := (Entails.of_eq (rest_bar m c)) $$ Hpay
  ihave Hrooms := (rooms_sorted c) $$ Hp
  imod (Rounds.cell_close ER (sched m) (Set.mem_univ (K (c, none))) (fun h => h) (R := 0 + 1) (duties_later m (barCell c))) $$ [Ha] with Hz
  · isplitr; · iexact HI
    iexact Ha
  iapply Hk
  isplitr [Hz]
  · isplitr; · iexact HR
    isplitr; · iexact HL
    isplitl [HO]; · iexists _; iexact HO
    isplitl [Hts]; · iexact Hts
    isplitl [Hrooms]; · iexact Hrooms
    isplitl [Hrs]; · iexact Hrs
    isplitr; · iempintro
    isplitr <;> iempintro
  iexact Hz

/-- The copy of the device's own block into its rows of the gathered array. -/
theorem own_step (c : Dev nD) (f : (cc0_scratch0 : Ref sig .tc).ty.Contents (Elt F)) (off : Fin 2 → ℕ) (h : off = offP c .all)
    (inb : ∀ a, off a + S128x1024.size a ≤ S1024x1024.size a) {l1 l2 hx hm}
    {α : Type} {Q : α → sProp 𝕄} {k : PUnit → Prog (TpuEff nD τ sig (Elt F) Λ₀ .tc) α} :
    iprop((((c : Thread nD τ).loc cc0_stg0_0) ↦{fullShare} xstg m c) ∗ pts c (pieceS c .all) fullShare f)
      ⊢ iprop((iprop((((c : Thread nD τ).loc cc0_stg0_0) ↦{fullShare} xstg m c) ∗ pts c (pieceS c .all) fullShare (gat m))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load xM (Rect.unit (s := S128x1024) ![0, 0] S128x1024.size inb_S128x1024_S128x1024_0_0).toLoadRect l1) fun v =>
                .op (.load gM (Rect.unit (s := S1024x1024) off S128x1024.size inb).toLoadRect l2) fun _ =>
                .op (.store gM (Rect.unit (s := S1024x1024) off S128x1024.size inb) (k0_pay1 v) Finset.univ hx hm) k) Q) := by
  have hset : ((gM : Memref sig .tc .vmem S1024x1024 .bf16).access (Rect.unit (s := S1024x1024) off S128x1024.size inb)).set = pieceS c .all :=
    (View.set_slice_whole _ _).trans (set_all c off h inb)
  iintro ⟨Hx, Hr⟩ Hk
  iapply (wp_load 𝒱₀ (c : Thread nD τ) none Set.univ (m := xM) (Finset.subset_univ _)) $$ Hx; iintro Hx
  rw [show (xM : Memref sig .tc .vmem S128x1024 .bf16).view.readAt (Elt F) (Rect.unit (s := S128x1024) ![0, 0] S128x1024.size inb_S128x1024_S128x1024_0_0).toLoadRect (xstg m c) = xstg m c
    from Memref.readAt_unit_zero (Elt F) cc0_stg0_0 hz _ _]
  unfold pts
  iapply (wp_load_rect 𝒱₀ (c : Thread nD τ) none Set.univ (m := gM) (r := Rect.unit (s := S1024x1024) off S128x1024.size inb) hset.subset) $$ Hr
  iintro Hr
  iapply (wp_store 𝒱₀ (c : Thread nD τ) none Set.univ (m := gM) (r := Rect.unit (s := S1024x1024) off S128x1024.size inb) (Mk := Finset.univ) hset.subset) $$ Hr
  iintro Hr
  rw [show k0_pay1 (F := F) (xstg m c) = xstg m c from by unfold k0_pay1; simp only [shapeCast_self]]
  ihave Hr := (Entails.of_eq (pointsTo_congr (ℓ := (c : Thread nD τ).loc cc0_scratch0) (I := pieceS c .all) (q := fullShare) (write_gat m c off h inb f))) $$ Hr
  iapply Hk
  isplitl [Hx] <;> iassumption

/-- The copy of the device's block of `w` into its scratch. -/
theorem w_step (c : Dev nD) (f : (cc0_scratch1 : Ref sig .tc).ty.Contents (Elt F)) {l1 l2 hx hm}
    {α : Type} {Q : α → sProp 𝕄} {k : PUnit → Prog (TpuEff nD τ sig (Elt F) Λ₀ .tc) α} :
    iprop((((c : Thread nD τ).loc cc0_stg1_0) ↦{fullShare} wstg m c) ∗ ((c : Thread nD τ).loc cc0_scratch1) ↦{fullShare} f)
      ⊢ iprop((iprop((((c : Thread nD τ).loc cc0_stg1_0) ↦{fullShare} wstg m c) ∗ wCopy m c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load wM (Rect.unit (s := S1024x128) ![0, 0] S1024x128.size inb_S1024x128_S1024x128_0_0).toLoadRect l1) fun v =>
                .op (.load wbM (Rect.unit (s := S1024x128) ![0, 0] S1024x128.size inb_S1024x128_S1024x128_0_0).toLoadRect l2) fun _ =>
                .op (.store wbM (Rect.unit (s := S1024x128) ![0, 0] S1024x128.size inb_S1024x128_S1024x128_0_0) (k0_pay2 v) Finset.univ hx hm) k) Q) := by
  unfold wCopy
  iintro ⟨Hw, Hb⟩ Hk
  iapply (wp_load 𝒱₀ (c : Thread nD τ) none Set.univ (m := wM) (Finset.subset_univ _)) $$ Hw; iintro Hw
  rw [show (wM : Memref sig .tc .vmem S1024x128 .bf16).view.readAt (Elt F) (Rect.unit (s := S1024x128) ![0, 0] S1024x128.size inb_S1024x128_S1024x128_0_0).toLoadRect (wstg m c) = wstg m c
    from Memref.readAt_unit_zero (Elt F) cc0_stg1_0 hz _ _]
  iapply (wp_load 𝒱₀ (c : Thread nD τ) none Set.univ (m := wbM) (Finset.subset_univ _)) $$ Hb; iintro Hb
  iapply (wp_store 𝒱₀ (c : Thread nD τ) none Set.univ (m := wbM) (r := Rect.unit (s := S1024x128) ![0, 0] S1024x128.size inb_S1024x128_S1024x128_0_0)
    (Mk := Finset.univ) (Finset.subset_univ _)) $$ Hb
  iintro Hb
  rw [show k0_pay2 (F := F) (wstg m c) = wstg m c from by unfold k0_pay2; simp only [shapeCast_self],
    show ((wbM : Memref sig .tc .vmem S1024x128 .bf16).access (Rect.unit (s := S1024x128) ![0, 0] S1024x128.size inb_S1024x128_S1024x128_0_0) : View sig .tc _ _ _).write (Elt F) f (wstg m c) Finset.univ = wstg m c
      from Memref.write_access_unit_zero_univ (Elt F) cc0_scratch1 hz _ f _]
  iapply Hk
  isplitl [Hw] <;> iassumption

end Cert.GatherMatmul

end
-- ==== Proof.Run.lean ====
/-
# A device's run, part by part

The kernel's body is eleven parts and a tail. Each theorem here runs one: from what the device holds before it to what
it holds after it, by the step lemmas, in program order.
-/
module

public import proofs.«01_k».proof.Proof.Enter

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Site → ℕ) (c : Dev nD)

/-- The staged blocks of `x` and `w`, as they are throughout. -/
def ins (c : Dev nD) : sProp 𝕄 :=
  iprop((((c : Thread nD τ).loc cc0_stg0_0) ↦{fullShare} xstg m c) ∗ ((c : Thread nD τ).loc cc0_stg1_0) ↦{fullShare} wstg m c)

/-- Part 1: the three signals. The room handed over is the whole gathered array but the device's own rows. -/
theorem run1 (f : (cc0_scratch0 : Ref sig .tc).ty.Contents (Elt F)) {Q} :
    iprop(Ent m K c [0, 1, 2] ∗ pts c Finset.univ fullShare f
        ∗ (∀ v2 v7 v10 v13 v15 v17 v19 v21, (Ent m K c [] ∗ pts c (pieceS c .all) fullShare f)
            -∗ Q ⟨c, v2, v7, v10, v13, v15, v17, v19, v21, SemArray.scalar (sig.barrier 0 rfl)⟩))
      ⊢ wp frame (wpE (defs₀ (F := F)) 𝒱₀ (c : Thread nD τ) none) Set.univ
          (k0_part1 xM (Memref.isWhole_whole _) wM (Memref.isWhole_whole _) oM (Memref.isWhole_whole _) gM (Memref.isWhole_whole _)
            wbM (Memref.isWhole_whole _) cc0_scratch2 cc0_scratch3 cc0_scratch4 cc0_scratch5 cc0_scratch6 cc0_scratch7) Q := by
  rw [pts_pieces]
  simp only [k0_part1_eq_skeleton]; unfold k0_part1_skel
  simp only [semSignalWord, Prog.lift, Prog.bind_op, Prog.bind_ret, Prog.pure_eq_ret, wp_deviceId]
  iintro ⟨HE, ⟨Hown, H0, H1, H2⟩, HQ⟩
  iapply (signal_step m K c _ 0 _ (dev1_eq c) rfl (by decide)) $$ [HE H1]
  · isplitl [HE]; · iexact HE
    iapply (give_room c 0 f); iexact H1
  iintro HE
  iapply (signal_step m K c _ 1 _ (dev2_eq c) rfl (by decide)) $$ [HE H0]
  · isplitl [HE]; · iexact HE
    iapply (give_room c 1 f); iexact H0
  iintro HE
  iapply (signal_step m K c _ 2 _ (dev3_eq c) rfl (by decide)) $$ [HE H2]
  · isplitl [HE]; · iexact HE
    iapply (give_room c 2 f); iexact H2
  iintro HE
  rw [wp_ret]; imodintro
  iapply HQ
  isplitl [HE] <;> iassumption

/-- Part 2: the device's block into its rows, the barrier, the first two transfers. -/
theorem run2 (f : (cc0_scratch0 : Ref sig .tc).ty.Contents (Elt F)) {v2 v7 v10 v15 : BitVec 32} {Q} :
    iprop(Ent m K c [] ∗ pts c (pieceS c .all) fullShare f ∗ ins m c
        ∗ ((Ctl m K c [2, 3, 4, 5, 6, 7, 8, 9, 10] [0, 1, 2, 5, 3, 4, 7, 6, 8, 9, 10] [0, 1] [] [] ∗ semVal (barCell c) 0 ∗ ins m c ∗ kept m c c ∗ sendPay m c 2) -∗ Q ⟨⟩))
      ⊢ wp frame (wpE (defs₀ (F := F)) 𝒱₀ (c : Thread nD τ) none) Set.univ
          (k0_part2 xM (Memref.isWhole_whole _) wM (Memref.isWhole_whole _) oM (Memref.isWhole_whole _) gM (Memref.isWhole_whole _)
            wbM (Memref.isWhole_whole _) cc0_scratch2 cc0_scratch3 cc0_scratch4 cc0_scratch5 cc0_scratch6 cc0_scratch7 c v2 v7 v10 v15 (SemArray.scalar (sig.barrier 0 rfl))) Q := by
  simp only [k0_part2_eq_skeleton]; unfold k0_part2_skel
  simp only [semWaitWord, Prog.lift, Prog.bind_op, Prog.bind_ret, Prog.pure_eq_ret]
  unfold ins
  iintro ⟨HE, Hown, ⟨Hx, Hw⟩, HQ⟩
  iapply (own_step m c f _ (off1_c c) _) $$ [Hx Hown]
  · isplitl [Hx] <;> iassumption
  iintro ⟨Hx, Hown⟩
  iapply (barrier_step m K c rfl (by decide)) $$ HE
  iintro ⟨HC, Hz⟩
  ihave H := (Entails.of_eq (lend_own m c)) $$ Hown
  icases H with ⟨HK, S0, S1, S2⟩
  iapply (send_step m K c _ 0 _ _ _ _ _ S128x1024.size _ _ (dev4_eq c) (set_all c _ (off2_c c) _) (credit_all 0 rfl _ _ _) rfl rfl) $$ [HC S0]
  · isplitl [HC] <;> iassumption
  iintro HC
  iapply (send_step m K c _ 1 _ _ _ _ _ S128x1024.size _ _ (dev5_eq c) (set_all c _ (off2_c c) _) (credit_all 1 rfl _ _ _) rfl rfl) $$ [HC S1]
  · isplitl [HC] <;> iassumption
  iintro HC
  rw [wp_ret]; imodintro
  iapply HQ
  isplitl [HC]; · iexact HC
  isplitl [Hz]; · iexact Hz
  isplitl [Hx Hw]; · isplitl [Hx] <;> iassumption
  isplitl [HK] <;> iassumption

/-- Part 3: the third transfer, `w` into its scratch, the device's own block multiplied, its partner's block in. -/
theorem run3 (f : (cc0_scratch1 : Ref sig .tc).ty.Contents (Elt F)) {v2 v7 v15 : BitVec 32} {Q} :
    iprop(Ctl m K c [2, 3, 4, 5, 6, 7, 8, 9, 10] [0, 1, 2, 5, 3, 4, 7, 6, 8, 9, 10] [0, 1] [] [] ∗ ins m c ∗ kept m c c ∗ sendPay m c 2
        ∗ (((c : Thread nD τ).loc cc0_scratch1) ↦{fullShare} f) ∗ done m c []
        ∗ ((Ctl m K c [3, 4, 5, 6, 7, 8, 9, 10] [1, 2, 5, 3, 4, 7, 6, 8, 9, 10] [0, 1, 2] [0] [] ∗ ins m c ∗ kept m c c ∗ wCopy m c ∗ done m c [c] ∗ recvPay m c 0) -∗ Q ⟨⟩))
      ⊢ wp frame (wpE (defs₀ (F := F)) 𝒱₀ (c : Thread nD τ) none) Set.univ
          (k0_part3 xM (Memref.isWhole_whole _) wM (Memref.isWhole_whole _) oM (Memref.isWhole_whole _) gM (Memref.isWhole_whole _)
            wbM (Memref.isWhole_whole _) cc0_scratch2 cc0_scratch3 cc0_scratch4 cc0_scratch5 cc0_scratch6 cc0_scratch7 c v2 v7 v15) Q := by
  simp only [k0_part3_eq_skeleton]; unfold k0_part3_skel
  simp only [semWaitWord, Prog.lift, Prog.bind_op, Prog.bind_ret, Prog.pure_eq_ret]
  unfold ins
  iintro ⟨HC, ⟨Hx, Hw⟩, HK, S2, Hb, HD, HQ⟩
  iapply (send_step m K c _ 2 _ _ _ _ _ S128x1024.size _ _ (dev6_eq c) (set_all c _ (off2_c c) _) (credit_all 2 rfl _ _ _) rfl rfl) $$ [HC S2]
  · isplitl [HC] <;> iassumption
  iintro HC
  iapply (w_step m c f) $$ [Hw Hb]
  · isplitl [Hw] <;> iassumption
  iintro ⟨Hw, HW⟩
  iapply (mul_step m c c _ _ _ (off1_c c) (off3_c c) _ _ rfl) $$ [HK HW HD]
  · isplitl [HK]; · iexact HK
    isplitl [HW] <;> iassumption
  iintro ⟨HK, HW, HD⟩
  iapply (recv_step m K c 0 _ _ _ _ _ S128x1024.size _ _ (by decide) (credit_all 0 rfl _ _ _) rfl) $$ HC
  iintro ⟨HC, R0⟩
  rw [wp_ret]; imodintro
  iapply HQ
  isplitl [HC]; · iexact HC
  isplitl [Hx Hw]; · isplitl [Hx] <;> iassumption
  isplitl [HK]; · iexact HK
  isplitl [HW]; · iexact HW
  isplitl [HD]; · iexact HD
  iexact R0

/-- Part 4: two transfers of the partner's block, the block multiplied, the left neighbour's block in. -/
theorem run4 {v2 v10 v15 : BitVec 32} {Q} :
    iprop(Ctl m K c [3, 4, 5, 6, 7, 8, 9, 10] [1, 2, 5, 3, 4, 7, 6, 8, 9, 10] [0, 1, 2] [0] [] ∗ recvPay m c 0 ∗ wCopy m c ∗ done m c [c]
        ∗ ((Ctl m K c [5, 6, 7, 8, 9, 10] [2, 5, 3, 4, 7, 6, 8, 9, 10] [0, 1, 2, 3, 4] [1, 0] [] ∗ kept m c (pr c) ∗ wCopy m c ∗ done m c [pr c, c] ∗ recvPay m c 1) -∗ Q ⟨⟩))
      ⊢ wp frame (wpE (defs₀ (F := F)) 𝒱₀ (c : Thread nD τ) none) Set.univ
          (k0_part4 xM (Memref.isWhole_whole _) wM (Memref.isWhole_whole _) oM (Memref.isWhole_whole _) gM (Memref.isWhole_whole _)
            wbM (Memref.isWhole_whole _) cc0_scratch2 cc0_scratch3 cc0_scratch4 cc0_scratch5 cc0_scratch6 cc0_scratch7 c v2 v10 v15) Q := by
  simp only [k0_part4_eq_skeleton]; unfold k0_part4_skel
  simp only [semWaitWord, Prog.lift, Prog.bind_op, Prog.bind_ret, Prog.pure_eq_ret]
  iintro ⟨HC, R0, HW, HD, HQ⟩
  ihave H := (Entails.of_eq (lend_pr m c)) $$ R0
  icases H with ⟨HK, S4, S3⟩
  iapply (send_step m K c _ 3 _ _ _ _ _ S128x512.size _ _ (dev7_eq c) (set_snd (pr c) _ (off5_c c) _) (credit_half 3 (by decide) _ _ _) rfl rfl) $$ [HC S3]
  · isplitl [HC] <;> iassumption
  iintro HC
  iapply (send_step m K c _ 4 _ _ _ _ _ S128x512.size _ _ (dev8_eq c) (set_fst (pr c) _ (off6_c c) _) (credit_half 4 (by decide) _ _ _) rfl rfl) $$ [HC S4]
  · isplitl [HC] <;> iassumption
  iintro HC
  iapply (mul_step m c (pr c) _ _ _ (off7_c c) (off8_c c) _ _ rfl) $$ [HK HW HD]
  · isplitl [HK]; · iexact HK
    isplitl [HW] <;> iassumption
  iintro ⟨HK, HW, HD⟩
  iapply (recv_step m K c 1 _ _ _ _ _ S128x1024.size _ _ (by decide) (credit_all 1 rfl _ _ _) rfl) $$ HC
  iintro ⟨HC, R1⟩
  rw [wp_ret]; imodintro
  iapply HQ
  isplitl [HC]; · iexact HC
  isplitl [HK]; · iexact HK
  isplitl [HW]; · iexact HW
  isplitl [HD]; · iexact HD
  iexact R1

/-- Part 5: two transfers of the left neighbour's block, the block multiplied, the right neighbour's block in. -/
theorem run5 {v2 v7 v10 : BitVec 32} {Q} :
    iprop(Ctl m K c [5, 6, 7, 8, 9, 10] [2, 5, 3, 4, 7, 6, 8, 9, 10] [0, 1, 2, 3, 4] [1, 0] [] ∗ recvPay m c 1 ∗ wCopy m c ∗ done m c [pr c, c]
        ∗ ((Ctl m K c [7, 8, 9, 10] [5, 3, 4, 7, 6, 8, 9, 10] [0, 1, 2, 3, 4, 5, 6] [2, 1, 0] [] ∗ kept m c (lf c) ∗ spare m c (lf c) .snd ∗ wCopy m c ∗ done m c [lf c, pr c, c] ∗ recvPay m c 2) -∗ Q ⟨⟩))
      ⊢ wp frame (wpE (defs₀ (F := F)) 𝒱₀ (c : Thread nD τ) none) Set.univ
          (k0_part5 xM (Memref.isWhole_whole _) wM (Memref.isWhole_whole _) oM (Memref.isWhole_whole _) gM (Memref.isWhole_whole _)
            wbM (Memref.isWhole_whole _) cc0_scratch2 cc0_scratch3 cc0_scratch4 cc0_scratch5 cc0_scratch6 cc0_scratch7 c v2 v7 v10) Q := by
  simp only [k0_part5_eq_skeleton]; unfold k0_part5_skel
  simp only [semWaitWord, Prog.lift, Prog.bind_op, Prog.bind_ret, Prog.pure_eq_ret]
  iintro ⟨HC, R1, HW, HD, HQ⟩
  ihave H := (Entails.of_eq (lend_lf m c)) $$ R1
  icases H with ⟨HK, ⟨S5, S6⟩, P⟩
  iapply (send_step m K c _ 5 _ _ _ _ _ S128x512.size _ _ (dev9_eq c) (set_fst (lf c) _ (off10_3 c) _) (credit_half 5 (by decide) _ _ _) rfl rfl) $$ [HC S5]
  · isplitl [HC] <;> iassumption
  iintro HC
  iapply (send_step m K c _ 6 _ _ _ _ _ S128x512.size _ _ (dev10_eq c) (set_fst (lf c) _ (off10_3 c) _) (credit_half 6 (by decide) _ _ _) rfl rfl) $$ [HC S6]
  · isplitl [HC] <;> iassumption
  iintro HC
  iapply (mul_step m c (lf c) _ _ _ (off11_3 c) (off12_3 c) _ _ rfl) $$ [HK HW HD]
  · isplitl [HK]; · iexact HK
    isplitl [HW] <;> iassumption
  iintro ⟨HK, HW, HD⟩
  iapply (recv_step m K c 2 _ _ _ _ _ S128x1024.size _ _ (by decide) (credit_all 2 rfl _ _ _) rfl) $$ HC
  iintro ⟨HC, R2⟩
  rw [wp_ret]; imodintro
  iapply HQ
  isplitl [HC]; · iexact HC
  isplitl [HK]; · iexact HK
  isplitl [P]; · iexact P
  isplitl [HW]; · iexact HW
  isplitl [HD]; · iexact HD
  iexact R2

/-- Part 6: two transfers of the right neighbour's block, the block multiplied. -/
theorem run6 {v2 v7 v10 v15 v17 : BitVec 32} {Q} :
    iprop(Ctl m K c [7, 8, 9, 10] [5, 3, 4, 7, 6, 8, 9, 10] [0, 1, 2, 3, 4, 5, 6] [2, 1, 0] [] ∗ recvPay m c 2 ∗ wCopy m c ∗ done m c [lf c, pr c, c]
        ∗ ((Ctl m K c [9, 10] [5, 3, 4, 7, 6, 8, 9, 10] [0, 1, 2, 3, 4, 5, 6, 7, 8] [2, 1, 0] [] ∗ kept m c (rt c) ∗ spare m c (rt c) .fst ∗ wCopy m c ∗ done m c [rt c, lf c, pr c, c]) -∗ Q ⟨⟩))
      ⊢ wp frame (wpE (defs₀ (F := F)) 𝒱₀ (c : Thread nD τ) none) Set.univ
          (k0_part6 xM (Memref.isWhole_whole _) wM (Memref.isWhole_whole _) oM (Memref.isWhole_whole _) gM (Memref.isWhole_whole _)
            wbM (Memref.isWhole_whole _) cc0_scratch2 cc0_scratch3 cc0_scratch4 cc0_scratch5 cc0_scratch6 cc0_scratch7 c v2 v7 v10 v15 v17) Q := by
  simp only [k0_part6_eq_skeleton]; unfold k0_part6_skel
  simp only [semWaitWord, Prog.lift, Prog.bind_op, Prog.bind_ret, Prog.pure_eq_ret]
  iintro ⟨HC, R2, HW, HD, HQ⟩
  ihave H := (Entails.of_eq (lend_rt m c)) $$ R2
  icases H with ⟨HK, P, ⟨S7, S8⟩⟩
  iapply (send_step m K c _ 7 _ _ _ _ _ S128x512.size _ _ (dev11_eq c) (set_snd (rt c) _ (off13_1 c) _) (credit_half 7 (by decide) _ _ _) rfl rfl) $$ [HC S7]
  · isplitl [HC] <;> iassumption
  iintro HC
  iapply (send_step m K c _ 8 _ _ _ _ _ S128x512.size _ _ (dev12_eq c) (set_snd (rt c) _ (off13_1 c) _) (credit_half 8 (by decide) _ _ _) rfl rfl) $$ [HC S8]
  · isplitl [HC] <;> iassumption
  iintro HC
  iapply (mul_step m c (rt c) _ _ _ (off11_1 c) (off12_1 c) _ _ rfl) $$ [HK HW HD]
  · isplitl [HK]; · iexact HK
    isplitl [HW] <;> iassumption
  iintro ⟨HK, HW, HD⟩
  rw [wp_ret]; imodintro
  iapply HQ
  isplitl [HC]; · iexact HC
  isplitl [HK]; · iexact HK
  isplitl [P]; · iexact P
  isplitl [HW]; · iexact HW
  iexact HD

/-- Part 7: the left neighbour's partner's block in, in halves, its first half on, the block multiplied. -/
theorem run7 {v2 v7 v17 v19 : BitVec 32} {Q} :
    iprop(Ctl m K c [9, 10] [5, 3, 4, 7, 6, 8, 9, 10] [0, 1, 2, 3, 4, 5, 6, 7, 8] [2, 1, 0] [] ∗ wCopy m c ∗ done m c [rt c, lf c, pr c, c]
        ∗ ((Ctl m K c [10] [4, 7, 6, 8, 9, 10] [0, 1, 2, 3, 4, 5, 6, 7, 8, 9] [3, 5, 2, 1, 0] [] ∗ kept m c (pr (lf c)) ∗ spare m c (pr (lf c)) .snd ∗ wCopy m c ∗ done m c [pr (lf c), rt c, lf c, pr c, c]) -∗ Q ⟨⟩))
      ⊢ wp frame (wpE (defs₀ (F := F)) 𝒱₀ (c : Thread nD τ) none) Set.univ
          (k0_part7 xM (Memref.isWhole_whole _) wM (Memref.isWhole_whole _) oM (Memref.isWhole_whole _) gM (Memref.isWhole_whole _)
            wbM (Memref.isWhole_whole _) cc0_scratch2 cc0_scratch3 cc0_scratch4 cc0_scratch5 cc0_scratch6 cc0_scratch7 c v2 v7 v17 v19) Q := by
  simp only [k0_part7_eq_skeleton]; unfold k0_part7_skel
  simp only [semWaitWord, Prog.lift, Prog.bind_op, Prog.bind_ret, Prog.pure_eq_ret]
  iintro ⟨HC, HW, HD, HQ⟩
  iapply (recv_step m K c 5 _ _ _ _ _ S128x512.size _ _ (by decide) (credit_half 5 (by decide) _ _ _) rfl) $$ HC
  iintro ⟨HC, R5⟩
  ihave H := (Entails.of_eq (lend_plf m c)) $$ R5
  icases H with ⟨P, S9⟩
  iapply (send_step m K c _ 9 _ _ _ _ _ S128x512.size _ _ (dev13_eq c) (set_fst (pr (lf c)) _ (off14_3 c) _) (credit_half 9 (by decide) _ _ _) rfl rfl) $$ [HC S9]
  · isplitl [HC] <;> iassumption
  iintro HC
  iapply (recv_step m K c 3 _ _ _ _ _ S128x512.size _ _ (by decide) (credit_half 3 (by decide) _ _ _) rfl) $$ HC
  iintro ⟨HC, R3⟩
  ihave H := (Entails.of_eq (join_plf m c)) $$ [P R3]
  · isplitl [P] <;> iassumption
  icases H with ⟨HK, P⟩
  iapply (mul_step m c (pr (lf c)) _ _ _ (off16_3 c) (off17_3 c) _ _ rfl) $$ [HK HW HD]
  · isplitl [HK]; · iexact HK
    isplitl [HW] <;> iassumption
  iintro ⟨HK, HW, HD⟩
  rw [wp_ret]; imodintro
  iapply HQ
  isplitl [HC]; · iexact HC
  isplitl [HK]; · iexact HK
  isplitl [P]; · iexact P
  isplitl [HW]; · iexact HW
  iexact HD

/-- Part 8: the right neighbour's partner's block in, in halves, its second half on, the block multiplied. -/
theorem run8 {v2 v10 v13 v19 : BitVec 32} {Q} :
    iprop(Ctl m K c [10] [4, 7, 6, 8, 9, 10] [0, 1, 2, 3, 4, 5, 6, 7, 8, 9] [3, 5, 2, 1, 0] [] ∗ wCopy m c ∗ done m c [pr (lf c), rt c, lf c, pr c, c]
        ∗ ((Ctl m K c [] [6, 8, 9, 10] [0, 1, 2, 3, 4, 5, 6, 7, 8, 9, 10] [7, 4, 3, 5, 2, 1, 0] [] ∗ kept m c (pr (rt c)) ∗ spare m c (pr (rt c)) .fst ∗ wCopy m c ∗ done m c [pr (rt c), pr (lf c), rt c, lf c, pr c, c]) -∗ Q ⟨⟩))
      ⊢ wp frame (wpE (defs₀ (F := F)) 𝒱₀ (c : Thread nD τ) none) Set.univ
          (k0_part8 xM (Memref.isWhole_whole _) wM (Memref.isWhole_whole _) oM (Memref.isWhole_whole _) gM (Memref.isWhole_whole _)
            wbM (Memref.isWhole_whole _) cc0_scratch2 cc0_scratch3 cc0_scratch4 cc0_scratch5 cc0_scratch6 cc0_scratch7 c v2 v10 v13 v19) Q := by
  simp only [k0_part8_eq_skeleton]; unfold k0_part8_skel
  simp only [semWaitWord, Prog.lift, Prog.bind_op, Prog.bind_ret, Prog.pure_eq_ret]
  iintro ⟨HC, HW, HD, HQ⟩
  iapply (recv_step m K c 4 _ _ _ _ _ S128x512.size _ _ (by decide) (credit_half 4 (by decide) _ _ _) rfl) $$ HC
  iintro ⟨HC, R4⟩
  iapply (recv_step m K c 7 _ _ _ _ _ S128x512.size _ _ (by decide) (credit_half 7 (by decide) _ _ _) rfl) $$ HC
  iintro ⟨HC, R7⟩
  ihave H := (Entails.of_eq (lend_prt m c)) $$ [R4 R7]
  · isplitl [R4] <;> iassumption
  icases H with ⟨HK, P, S10⟩
  iapply (send_step m K c _ 10 _ _ _ _ _ S128x512.size _ _ (dev14_eq c) (set_snd (pr (rt c)) _ (off15_1 c) _) (credit_half 10 (by decide) _ _ _) rfl rfl) $$ [HC S10]
  · isplitl [HC] <;> iassumption
  iintro HC
  iapply (mul_step m c (pr (rt c)) _ _ _ (off16_1 c) (off17_1 c) _ _ rfl) $$ [HK HW HD]
  · isplitl [HK]; · iexact HK
    isplitl [HW] <;> iassumption
  iintro ⟨HK, HW, HD⟩
  rw [wp_ret]; imodintro
  iapply HQ
  isplitl [HC]; · iexact HC
  isplitl [HK]; · iexact HK
  isplitl [P]; · iexact P
  isplitl [HW]; · iexact HW
  iexact HD

/-- Part 9: the opposite device's block in, in halves, the block multiplied, and half of its partner's in. -/
theorem run9 {v2 v13 v21 : BitVec 32} {Q} :
    iprop(Ctl m K c [] [6, 8, 9, 10] [0, 1, 2, 3, 4, 5, 6, 7, 8, 9, 10] [7, 4, 3, 5, 2, 1, 0] [] ∗ wCopy m c ∗ done m c [pr (rt c), pr (lf c), rt c, lf c, pr c, c]
        ∗ (∀ v, (Ctl m K c [] [10] [0, 1, 2, 3, 4, 5, 6, 7, 8, 9, 10] [9, 8, 6, 7, 4, 3, 5, 2, 1, 0] [] ∗ kept m c (op c) ∗ spare m c (op c) .all ∗ wCopy m c ∗ done m c [op c, pr (rt c), pr (lf c), rt c, lf c, pr c, c] ∗ recvPay m c 9) -∗ Q v))
      ⊢ wp frame (wpE (defs₀ (F := F)) 𝒱₀ (c : Thread nD τ) none) Set.univ
          (k0_part9 xM (Memref.isWhole_whole _) wM (Memref.isWhole_whole _) oM (Memref.isWhole_whole _) gM (Memref.isWhole_whole _)
            wbM (Memref.isWhole_whole _) cc0_scratch2 cc0_scratch3 cc0_scratch4 cc0_scratch5 cc0_scratch6 cc0_scratch7 c v2 v13 v21) Q := by
  simp only [k0_part9_eq_skeleton]; unfold k0_part9_skel
  simp only [semWaitWord, Prog.lift, Prog.bind_op, Prog.bind_ret, Prog.pure_eq_ret]
  iintro ⟨HC, HW, HD, HQ⟩
  iapply (recv_step m K c 6 _ _ _ _ _ S128x512.size _ _ (by decide) (credit_half 6 (by decide) _ _ _) rfl) $$ HC
  iintro ⟨HC, R6⟩
  iapply (recv_step m K c 8 _ _ _ _ _ S128x512.size _ _ (by decide) (credit_half 8 (by decide) _ _ _) rfl) $$ HC
  iintro ⟨HC, R8⟩
  ihave H := (Entails.of_eq (lend_op m c)) $$ [R6 R8]
  · isplitl [R6] <;> iassumption
  icases H with ⟨HK, P⟩
  iapply (mul_step m c (op c) _ _ _ (off11_2 c) (off12_2 c) _ _ rfl) $$ [HK HW HD]
  · isplitl [HK]; · iexact HK
    isplitl [HW] <;> iassumption
  iintro ⟨HK, HW, HD⟩
  iapply (recv_step m K c 9 _ _ _ _ _ S128x512.size _ _ (by decide) (credit_half 9 (by decide) _ _ _) rfl) $$ HC
  iintro ⟨HC, R9⟩
  rw [wp_ret]; imodintro
  iapply HQ
  isplitl [HC]; · iexact HC
  isplitl [HK]; · iexact HK
  isplitl [P]; · iexact P
  isplitl [HW]; · iexact HW
  isplitl [HD]; · iexact HD
  iexact R9

/-- Part 10: the other half, the last block multiplied, the first three transfers given back. -/
theorem run10 {v21 v267 c0 : BitVec 32} {Q} :
    iprop(Ctl m K c [] [10] [0, 1, 2, 3, 4, 5, 6, 7, 8, 9, 10] [9, 8, 6, 7, 4, 3, 5, 2, 1, 0] [] ∗ recvPay m c 9 ∗ wCopy m c ∗ done m c [op c, pr (rt c), pr (lf c), rt c, lf c, pr c, c]
        ∗ ((Ctl m K c [] [] [3, 4, 5, 6, 7, 8, 9, 10] [10, 9, 8, 6, 7, 4, 3, 5, 2, 1, 0] [2, 1, 0] ∗ kept m c (pr (op c)) ∗ spare m c (pr (op c)) .all ∗ wCopy m c ∗ done m c [pr (op c), op c, pr (rt c), pr (lf c), rt c, lf c, pr c, c] ∗ sendPay m c 0 ∗ sendPay m c 1 ∗ sendPay m c 2) -∗ Q ⟨⟩))
      ⊢ wp frame (wpE (defs₀ (F := F)) 𝒱₀ (c : Thread nD τ) none) Set.univ
          (k0_part10 xM (Memref.isWhole_whole _) wM (Memref.isWhole_whole _) oM (Memref.isWhole_whole _) gM (Memref.isWhole_whole _)
            wbM (Memref.isWhole_whole _) cc0_scratch2 cc0_scratch3 cc0_scratch4 cc0_scratch5 cc0_scratch6 cc0_scratch7 c v21 v267 c0) Q := by
  simp only [k0_part10_eq_skeleton]; unfold k0_part10_skel
  simp only [semWaitWord, Prog.lift, Prog.bind_op, Prog.bind_ret, Prog.pure_eq_ret]
  iintro ⟨HC, R9, HW, HD, HQ⟩
  iapply (recv_step m K c 10 _ _ _ _ _ S128x512.size _ _ (by decide) (credit_half 10 (by decide) _ _ _) rfl) $$ HC
  iintro ⟨HC, R10⟩
  ihave H := (Entails.of_eq (lend_pop m c)) $$ [R9 R10]
  · isplitl [R9] <;> iassumption
  icases H with ⟨HK, P⟩
  iapply (mul_step m c (pr (op c)) _ _ _ (off16_2 c) (off17_2 c) _ _ rfl) $$ [HK HW HD]
  · isplitl [HK]; · iexact HK
    isplitl [HW] <;> iassumption
  iintro ⟨HK, HW, HD⟩
  iapply (back_step m K c 0 _ _ _ _ S128x1024.size _ _ (credit_all 0 rfl _ _ _) rfl) $$ HC
  iintro ⟨HC, S0⟩
  iapply (back_step m K c 1 _ _ _ _ S128x1024.size _ _ (credit_all 1 rfl _ _ _) rfl) $$ HC
  iintro ⟨HC, S1⟩
  iapply (back_step m K c 2 _ _ _ _ S128x1024.size _ _ (credit_all 2 rfl _ _ _) rfl) $$ HC
  iintro ⟨HC, S2⟩
  rw [wp_ret]; imodintro
  iapply HQ
  isplitl [HC]; · iexact HC
  isplitl [HK]; · iexact HK
  isplitl [P]; · iexact P
  isplitl [HW]; · iexact HW
  isplitl [HD]; · iexact HD
  isplitl [S0]; · iexact S0
  isplitl [S1]; · iexact S1
  iexact S2

/-- Part 11: the next six transfers given back. -/
theorem run11 {Q} :
    iprop(Ctl m K c [] [] [3, 4, 5, 6, 7, 8, 9, 10] [10, 9, 8, 6, 7, 4, 3, 5, 2, 1, 0] [2, 1, 0]
        ∗ ((Ctl m K c [] [] [9, 10] [10, 9, 8, 6, 7, 4, 3, 5, 2, 1, 0] [8, 7, 6, 5, 4, 3, 2, 1, 0] ∗ sendPay m c 3 ∗ sendPay m c 4 ∗ sendPay m c 5 ∗ sendPay m c 6 ∗ sendPay m c 7 ∗ sendPay m c 8) -∗ Q ⟨⟩))
      ⊢ wp frame (wpE (defs₀ (F := F)) 𝒱₀ (c : Thread nD τ) none) Set.univ
          (k0_part11 xM (Memref.isWhole_whole _) wM (Memref.isWhole_whole _) oM (Memref.isWhole_whole _) gM (Memref.isWhole_whole _)
            wbM (Memref.isWhole_whole _) cc0_scratch2 cc0_scratch3 cc0_scratch4 cc0_scratch5 cc0_scratch6 cc0_scratch7 c ) Q := by
  simp only [k0_part11_eq_skeleton]; unfold k0_part11_skel
  simp only [semWaitWord, Prog.lift, Prog.bind_op, Prog.bind_ret, Prog.pure_eq_ret]
  iintro ⟨HC, HQ⟩
  iapply (back_step m K c 3 _ _ _ _ S128x512.size _ _ (credit_half 3 (by decide) _ _ _) rfl) $$ HC
  iintro ⟨HC, S3⟩
  iapply (back_step m K c 4 _ _ _ _ S128x512.size _ _ (credit_half 4 (by decide) _ _ _) rfl) $$ HC
  iintro ⟨HC, S4⟩
  iapply (back_step m K c 5 _ _ _ _ S128x512.size _ _ (credit_half 5 (by decide) _ _ _) rfl) $$ HC
  iintro ⟨HC, S5⟩
  iapply (back_step m K c 6 _ _ _ _ S128x512.size _ _ (credit_half 6 (by decide) _ _ _) rfl) $$ HC
  iintro ⟨HC, S6⟩
  iapply (back_step m K c 7 _ _ _ _ S128x512.size _ _ (credit_half 7 (by decide) _ _ _) rfl) $$ HC
  iintro ⟨HC, S7⟩
  iapply (back_step m K c 8 _ _ _ _ S128x512.size _ _ (credit_half 8 (by decide) _ _ _) rfl) $$ HC
  iintro ⟨HC, S8⟩
  rw [wp_ret]; imodintro
  iapply HQ
  isplitl [HC]; · iexact HC
  isplitl [S3]; · iexact S3
  isplitl [S4]; · iexact S4
  isplitl [S5]; · iexact S5
  isplitl [S6]; · iexact S6
  isplitl [S7]; · iexact S7
  iexact S8

end Cert.GatherMatmul

end
-- ==== Proof.Body.lean ====
/-
# The kernel's body on one device

What the launch hands a device, what its run hands back, and the run between: the eleven parts in order.
-/
module

public import proofs.«01_k».proof.Proof.Run
public import proofs.«01_k».proof.Proof.Gen.KernelIdeal.Points

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- A device's share of the protocol at launch, the credits apart: the tokens of what it pays, its positions at its cells. -/
def lin (c : Dev nD) : sProp 𝕄 :=
  iprop((bigSepL [0, 1, 2] fun i => dutyTok ER (barCell (nb i c)) 0 (opp i)) ∗ atPos ER (barCell c) 0 ∅ 0
    ∗ bigSepL sends (toSend c) ∗ bigSepL recvs fun t => atPos ER (rCell c t) 0 ∅ 0)

/-- What a device's run starts from: the protocol's records, its share of it, its credits and the levels. -/
def start (c : Dev nD) : sProp 𝕄 :=
  iprop((∃ K, records m K ∗ lin c) ∗ cred (tallyAt (barCell c) () 3)
    ∗ (bigSepL recvs fun t => cred (tallyAt (rCell c t) () (amtT t))) ∗ levAts L lv)

/-- The two scratch arrays, at any contents. -/
def scratch (c : Dev nD) : sProp 𝕄 :=
  iprop((∃ f, pts c Finset.univ fullShare f) ∗ ∃ f : (cc0_scratch1 : Ref sig .tc).ty.Contents (Elt F), ((c : Thread nD τ).loc cc0_scratch1) ↦{fullShare} f)

/-- Every semaphore of a device at zero. -/
def zeros (c : Dev nD) : sProp 𝕄 :=
  iprop((bigSepL sends.reverse fun t => semVal (sCell c t) 0) ∗ (bigSepL recvs.reverse fun t => semVal (rCell c t) 0) ∗ semVal (barCell c) 0)

def Φ₀ (c : Dev nD) : sProp 𝕄 := iprop(start m c ∗ scratch c)
def Φ₁ (c : Dev nD) : sProp 𝕄 := iprop(scratch c ∗ zeros c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => dues c allPays
    | ⟨_ + 1, _⟩ => 0

omit [FloatOps F] in
/-- Owning a whole buffer at given contents. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

section Body
variable (K : Site → ℕ) (c : Dev nD)

omit [FloatOps F] in
/-- Positions and credits together are what a device holds of its receives. -/
theorem toRecvs : iprop((bigSepL recvs fun t => (atPos ER (rCell c t) 0 ∅ 0 : sProp 𝕄)) ∗ bigSepL recvs fun t => cred (tallyAt (rCell c t) () (amtT t)))
    ⊢ bigSepL recvs (toRecv c) := by
  unfold toRecv
  simp only [bigSepL_cons', bigSepL_nil]
  iintro ⟨⟨A0, A1, A2, A3, A4, A5, A6, A7, A8, A9, A10, -⟩, C0, C1, C2, C3, C4, C5, C6, C7, C8, C9, C10, -⟩
  iframe
  iempintro

omit [FloatOps F] in
/-- Everything lent is back and everything has come in: the gathered array is whole again. -/
theorem whole_again :
    iprop((kept m c c ∗ sendPay m c 0 ∗ sendPay m c 1 ∗ sendPay m c 2) ∗ (kept m c (pr c) ∗ sendPay m c 4 ∗ sendPay m c 3)
        ∗ (kept m c (lf c) ∗ (sendPay m c 5 ∗ sendPay m c 6) ∗ spare m c (lf c) .snd)
        ∗ (kept m c (rt c) ∗ spare m c (rt c) .fst ∗ (sendPay m c 7 ∗ sendPay m c 8))
        ∗ ((kept m c (pr (lf c)) ∗ spare m c (pr (lf c)) .snd) ∗ sendPay m c 9)
        ∗ (kept m c (pr (rt c)) ∗ spare m c (pr (rt c)) .fst ∗ sendPay m c 10)
        ∗ (kept m c (op c) ∗ spare m c (op c) .all) ∗ (kept m c (pr (op c)) ∗ spare m c (pr (op c)) .all))
      ⊢ pts c Finset.univ fullShare (gat m) := by
  rw [← lend_own, ← lend_pr, ← lend_lf, ← lend_rt, ← join_plf, ← lend_prt, ← lend_op, ← lend_pop, pts_pieces]
  simp only [tsOf, bigSepL_cons', bigSepL_nil]
  iintro ⟨R, R0, R1, R2, ⟨⟨P, R3⟩, S9⟩, ⟨R4, R7⟩, ⟨R6, R8⟩, R9, R10⟩
  ihave R5 := (Entails.of_eq (lend_plf m c).symm) $$ [P S9]
  · isplitl [P] <;> iassumption
  unfold recvPay
  iframe
  isplitr; · iempintro
  isplitr <;> iempintro

theorem done_all (D : List (Dev nD)) (hD : ∀ d, d ∈ D) : done m c D ⊢ iprop(((c : Thread nD τ).loc cc0_stg2_0) ↦{fullShare} outAt m c) := by
  unfold done
  iintro ⟨%f, %hf, H⟩
  rw [show f = outAt m c from funext fun i => hf i (hD _)]
  iexact H

set_option maxHeartbeats 1600000 in
/-- The body: from the launch's share to everything handed back, the result computed. -/
theorem run_body {Q : PUnit → sProp 𝕄} :
    iprop(records m K ∗ lin c ∗ cred (tallyAt (barCell c) () 3) ∗ (bigSepL recvs fun t => cred (tallyAt (rCell c t) () (amtT t)))
        ∗ levAts L lv ∗ scratch c ∗ (∃ W, owes (c : Thread nD τ) (dues c allPays) W) ∗ ins m c
        ∗ (∃ f : (cc0_stg2_0 : Ref sig .tc).ty.Contents (Elt F), ((c : Thread nD τ).loc cc0_stg2_0) ↦{fullShare} f)
        ∗ ((Φ₁ c ∗ (∃ W, owes (c : Thread nD τ) 0 W) ∗ ins m c ∗ (((c : Thread nD τ).loc cc0_stg2_0) ↦{fullShare} outAt m c)) -∗ Q ⟨⟩))
      ⊢ wp frame (wpE (defs₀ (F := F)) 𝒱₀ (c : Thread nD τ) none) Set.univ
          (cc0_body xM (Memref.isWhole_whole _) wM (Memref.isWhole_whole _) oM (Memref.isWhole_whole _) gM (Memref.isWhole_whole _)
            wbM (Memref.isWhole_whole _) cc0_scratch2 cc0_scratch3 cc0_scratch4 cc0_scratch5 cc0_scratch6 cc0_scratch7) Q := by
  simp only [cc0_body_eq_skeleton]; unfold cc0_body_skel
  simp only [Prog.lift, Prog.bind_op, Prog.bind_ret, Prog.pure_eq_ret, wp_bind]
  unfold scratch lin
  iintro ⟨#HR, ⟨Hd, HaB, Hts, HaR⟩, HcB, HcR, #HL, ⟨⟨%f, Hg⟩, ⟨%fb, Hb⟩⟩, HO, Hin, ⟨%fo, Ho⟩, HQ⟩
  ihave Hrs := (toRecvs (F := F) c) $$ [HaR HcR]
  · isplitl [HaR] <;> iassumption
  iapply (run1 m K c f)
  isplitl [HO Hd HaB Hts HcB Hrs]
  · unfold Ent
    isplitr; · iexact HR
    isplitr; · iexact HL
    isplitl [HO]; · iexact HO
    isplitl [Hd]; · iexact Hd
    isplitl [HaB]; · iexact HaB
    isplitl [HcB]; · iexact HcB
    isplitl [Hts] <;> iassumption
  isplitl [Hg]; · iexact Hg
  iintro %v2 %v7 %v10 %v13 %v15 %v17 %v19 %v21 ⟨HE, Hown⟩
  icases Hin with Hin
  iapply (run2 m K c f)
  isplitl [HE]; · iexact HE
  isplitl [Hown]; · iexact Hown
  isplitl [Hin]; · iexact Hin
  iintro ⟨HC, Hz, Hin, Kc, S2⟩
  iapply (run3 m K c fb)
  isplitl [HC]; · iexact HC
  isplitl [Hin]; · iexact Hin
  isplitl [Kc]; · iexact Kc
  isplitl [S2]; · iexact S2
  isplitl [Hb]; · iexact Hb
  isplitl [Ho]
  · unfold done; iexists fo; isplitr; · ipureintro; intro i hi; exact absurd hi List.not_mem_nil
    iexact Ho
  iintro ⟨HC, Hin, Kc, HW, HD, R⟩
  iapply (run4 m K c)
  isplitl [HC]; · iexact HC
  isplitl [R]; · iexact R
  isplitl [HW]; · iexact HW
  isplitl [HD]; · iexact HD
  iintro ⟨HC, Kp, HW, HD, R⟩
  iapply (run5 m K c)
  isplitl [HC]; · iexact HC
  isplitl [R]; · iexact R
  isplitl [HW]; · iexact HW
  isplitl [HD]; · iexact HD
  iintro ⟨HC, Kl, Pl, HW, HD, R⟩
  iapply (run6 m K c)
  isplitl [HC]; · iexact HC
  isplitl [R]; · iexact R
  isplitl [HW]; · iexact HW
  isplitl [HD]; · iexact HD
  iintro ⟨HC, Kr, Pr, HW, HD⟩
  iapply (run7 m K c)
  isplitl [HC]; · iexact HC
  isplitl [HW]; · iexact HW
  isplitl [HD]; · iexact HD
  iintro ⟨HC, Kpl, Ppl, HW, HD⟩
  iapply (run8 m K c)
  isplitl [HC]; · iexact HC
  isplitl [HW]; · iexact HW
  isplitl [HD]; · iexact HD
  iintro ⟨HC, Kpr, Ppr, HW, HD⟩
  iapply (run9 m K c)
  isplitl [HC]; · iexact HC
  isplitl [HW]; · iexact HW
  isplitl [HD]; · iexact HD
  iintro %v ⟨HC, Ko, Po, HW, HD, R⟩
  iapply (run10 m K c)
  isplitl [HC]; · iexact HC
  isplitl [R]; · iexact R
  isplitl [HW]; · iexact HW
  isplitl [HD]; · iexact HD
  iintro ⟨HC, Kpo, Ppo, HW, HD, S0, S1, S2⟩
  iapply (run11 m K c)
  isplitl [HC]; · iexact HC
  iintro ⟨HC, S3, S4, S5, S6, S7, S8⟩
  iapply (back_step m K c 9 _ _ _ _ S128x512.size _ _ (credit_half 9 (by decide) _ _ _) rfl) $$ HC
  iintro ⟨HC, S9⟩
  iapply (back_step m K c 10 _ _ _ _ S128x512.size _ _ (credit_half 10 (by decide) _ _ _) rfl) $$ HC
  iintro ⟨HC, S10⟩
  rw [wp_ret]; imodintro
  ihave Hg := (whole_again m c) $$ [Kc S0 S1 S2 Kp S4 S3 Kl S5 S6 Pl Kr Pr S7 S8 Kpl Ppl S9 Kpr Ppr S10 Ko Po Kpo Ppo]
  · iframe
  ihave Ho := (done_all m c _ (fun d => by
    have h := around_mem c d
    simp only [around, List.mem_cons, List.not_mem_nil, or_false] at h ⊢
    tauto)) $$ HD
  unfold Ctl
  icases HC with ⟨-, -, HO, -, -, -, -, Hzr, Hzs⟩
  iapply HQ
  unfold Φ₁ scratch zeros
  isplitl [Hg HW Hzr Hzs Hz]
  · isplitl [Hg HW]
    · isplitl [Hg]
      · iexists (gat m); iexact Hg
      · unfold wCopy; iexists (wstg m c); iexact HW
    isplitl [Hzs]; · iexact Hzs
    isplitl [Hzr]; · iexact Hzr
    iexact Hz
  isplitl [HO]; · iexact HO
  isplitl [Hin] <;> iassumption

/-- What the pipeline finds staged for the first operand is the device's block of rows. -/
theorem before_x (t : Fin cfg0.N) (d) : (dats m 0 c).before (0 : Fin 3) t d = xstg m c := by
  unfold Dat.before; rw [if_pos (fetch0_0 t)]; rw [fin_N0 t]; rfl

/-- What it finds staged for the second is the device's block of columns. -/
theorem before_w (t : Fin cfg0.N) (d) : (dats m 0 c).before (1 : Fin 3) t d = wstg m c := by
  unfold Dat.before; rw [if_pos (fetch0_1 t)]; rw [fin_N0 t]; rfl

/-- A staging buffer at contents `X`. -/
abbrev held (b : Ref sig .tc) (X : b.ty.Contents (Elt F)) : sProp 𝕄 :=
  iprop(∃ f : Buf (Elt F) ((c : Thread nD τ).loc b), ⌜f = X⌝ ∗ ((c : Thread nD τ).loc b) ↦{fullShare} f)

set_option maxRecDepth 4000 in
/-- The one grid point before the body, as the pipeline states it. -/
def pointPre : sProp 𝕄 :=
  iprop(Φ₀ m c ∗ (dats m 0 c).owesAt () t0_0.castSucc ∗ (∃ d, held c cc0_stg0_0 ((dats m 0 c).before (0 : Fin 3) t0_0 d))
    ∗ (∃ d, held c cc0_stg1_0 ((dats m 0 c).before (1 : Fin 3) t0_0 d)) ∗ ∃ d, held c cc0_stg2_0 ((dats m 0 c).before (2 : Fin 3) t0_0 d))

/-- And after it. -/
def pointPost : sProp 𝕄 :=
  iprop(Φ₁ c ∗ (dats m 0 c).owesAt () t0_0.succ ∗ held c cc0_stg0_0 (xstg m c) ∗ held c cc0_stg1_0 (wstg m c) ∗ held c cc0_stg2_0 (outAt m c))

theorem point : pointPre m c ⊢ wp frame (wpE (defs₀ (F := F)) 𝒱₀ (c : Thread nD τ) none) Set.univ
    (cc0_body xM (Memref.isWhole_whole _) wM (Memref.isWhole_whole _) oM (Memref.isWhole_whole _) gM (Memref.isWhole_whole _)
      wbM (Memref.isWhole_whole _) cc0_scratch2 cc0_scratch3 cc0_scratch4 cc0_scratch5 cc0_scratch6 cc0_scratch7) (fun _ => pointPost m c) := by
  unfold pointPre Φ₀ start
  simp only [before_x, before_w]
  unfold Dat.owesAt Pipeline.owesWithin
  iintro ⟨⟨⟨⟨%K, HR, Hlin⟩, HcB, HcR, HL⟩, Hscr⟩, ⟨%W, -, HO⟩, ⟨%_, %fx, %hx, Hx⟩, ⟨%_, %fw, %hw, Hw⟩, ⟨%_, %fo, -, Ho⟩⟩
  subst hx; subst hw
  iapply (run_body m K c)
  isplitl [HR]; · iexact HR
  isplitl [Hlin]; · iexact Hlin
  isplitl [HcB]; · iexact HcB
  isplitl [HcR]; · iexact HcR
  isplitl [HL]; · iexact HL
  isplitl [Hscr]; · iexact Hscr
  isplitl [HO]; · iexists W; iexact HO
  isplitl [Hx Hw]; · unfold ins; isplitl [Hx] <;> iassumption
  isplitl [Ho]; · iexists fo; iexact Ho
  unfold pointPost ins Dat.owesAt Pipeline.owesWithin
  iintro ⟨HΦ, ⟨%W', HO⟩, ⟨Hx, Hw⟩, Ho⟩
  isplitl [HΦ]; · iexact HΦ
  isplitl [HO]
  · iexists W'; isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 4000 in
/-- The pipeline's demand on the body, met at its one grid point. -/
theorem body_met : BodyObligation (dats (F := F) m 0 c) (defs₀ (F := F)) 𝒱₀ () Set.univ := fun t => by
  rw [fin_N0 t, bigSep_W0, bigSep_W0]
  simp only [owns_buffer]
  exact point m c

end Body

end Cert.GatherMatmul

end
-- ==== Proof.Launch.lean ====
/-
# The launch

The protocol's ghost state at the launch, dealt to the devices, and the run of the whole mesh.
-/
module

public import proofs.«01_k».proof.Proof.Body
public import Idealize.ShloMosaic.Lib.Pipeline.CollectiveSegs

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

abbrev ownSems (c : Dev nD) : sProp 𝕄 := Pipeline.ownSems0 (Ix := Unit) (Name := ℕ) (U := UU) (Lvl := ℕ) (Val := Elt F) (τ := τ) osem c

/-! ## The cells and the tokens -/

theorem osem_facts : Pipeline.OwnSemFacts cfg0.spec osem := by decide

theorem csem_injective : Function.Injective csem := by decide

theorem kcell_injective : Function.Injective (kcell : Site → GSem nD τ sig) := fun ⟨c, k⟩ ⟨d, l⟩ h => by
  have h₁ : c = d := congrArg (fun g : GSem nD τ sig => g.1.1) h
  have h₂ : k = l := csem_injective (congrArg Prod.snd h)
  subst h₁; subst h₂; rfl

def cells : Finset (GSem nD τ sig) := Finset.univ.map ⟨kcell, kcell_injective⟩

/-- The duties of one device's cells: its barrier's three, and one for each side of each transfer. -/
abbrev Duty : Type := Fin 3 ⊕ (Bool × Fin 11)
def dutyAt : Duty → SemLoc sig × Fin 3 | .inl i => (.reg barS, opp i) | .inr bt => (osem bt, 0)
theorem dutyAt_injective : Function.Injective dutyAt := by decide
abbrev tokOf (x : Dev nD × Duty) : GSem nD τ sig × ℕ × Fin 3 := (((x.1 : Thread nD τ), (dutyAt x.2).1), 0, (dutyAt x.2).2)
theorem tokOf_injective : Function.Injective tokOf := fun ⟨c, k⟩ ⟨d, l⟩ h => by
  have h₁ : c = d := congrArg (fun x : GSem nD τ sig × ℕ × Fin 3 => x.1.1.1) h
  have h₂ : k = l := dutyAt_injective (congrArg (fun x : GSem nD τ sig × ℕ × Fin 3 => (x.1.2, x.2.2)) h)
  subst h₁; subst h₂; rfl
def tokens : Finset (GSem nD τ sig × ℕ × Fin 3) := Finset.univ.map ⟨tokOf, tokOf_injective⟩

def u₀ : UU := (initOf (Pipeline.cells cfgs cellOf_inj) (Pipeline.launchToks cfgs cellOf_inj), initOf cells tokens)

/-! ## Listing a device's cells -/

/-- The own cells of a device, sends then receives; -/
def ownList : List (Bool × Fin 11) := sends.reverse.map (false, ·) ++ recvs.reverse.map (true, ·)

omit [FloatOps F] in
theorem own_listed (Φ : Bool × Fin 11 → sProp 𝕄) :
    bigSepL ownList Φ = iprop((bigSepL sends.reverse fun t => Φ (false, t)) ∗ bigSepL recvs.reverse fun t => Φ (true, t)) := by
  unfold ownList; rw [bigSepL_append, bigSepL_map, bigSepL_map]

omit [FloatOps F] in
/-- all of them, the barrier first. -/
theorem cells_listed (Φ : Option (Bool × Fin 11) → sProp 𝕄) :
    bigSep Finset.univ Φ = iprop(Φ none ∗ (bigSepL sends.reverse fun t => Φ (some (false, t))) ∗ bigSepL recvs.reverse fun t => Φ (some (true, t))) := by
  rw [bigSep_univ_eq_bigSepL (none :: ownList.map some) (by decide) (by decide), bigSepL_cons', bigSepL_map, own_listed]

omit [FloatOps F] in
theorem duties_listed (Φ : Duty → sProp 𝕄) :
    bigSep Finset.univ Φ = iprop((bigSepL [0, 1, 2] fun i => Φ (.inl i)) ∗ (bigSepL sends.reverse fun t => Φ (.inr (false, t))) ∗ bigSepL recvs.reverse fun t => Φ (.inr (true, t))) := by
  rw [bigSep_univ_eq_bigSepL (([0, 1, 2] : List (Fin 3)).map .inl ++ ownList.map .inr) (by decide) (by decide), bigSepL_append, bigSepL_map, bigSepL_map, own_listed]

omit [FloatOps F] in
/-- The order of a list does not matter. -/
theorem reordered {I : Type} [DecidableEq I] (l l' : List I) (hl : l.Nodup) (hl' : l'.Nodup) (h : l.toFinset = l'.toFinset) (Φ : I → sProp 𝕄) :
    bigSepL l Φ = bigSepL l' Φ := by
  rw [← bigSep_eq_bigSepL_of_eq l rfl hl Φ, bigSep_eq_bigSepL_of_eq l' h hl' Φ]

omit [FloatOps F] in
/-- Things held one per device and index, each index passed around the mesh its own way. -/
theorem dealt {I : Type} (l : List I) (e : I → Dev nD ≃ Dev nD) (Φ : I → Dev nD → sProp 𝕄) :
    (bigSep Finset.univ fun c => bigSepL l fun i => Φ i c) = bigSep Finset.univ fun c => bigSepL l fun i => Φ i (e i c) := by
  induction l with
  | nil => rfl
  | cons i l ih => simp only [bigSepL_cons', bigSep_sep', ih]; rw [bigSep_univ_equiv (e i) (Φ i)]

/-! ## Dealing the ghost state -/

/-- The tokens of a device's own cells. -/
def toks (c : Dev nD) : sProp 𝕄 := bigSep Finset.univ fun k : Duty => dutyTok ER (tokOf (c, k)).1 0 (tokOf (c, k)).2.2

/-- A device's part of the launch's ghost state. -/
def share (c : Dev nD) : sProp 𝕄 :=
  iprop((bigSep Finset.univ fun k => roundState ER (sched m) (kcell (c, k)) 0) ∗ (bigSep Finset.univ fun k => atPos ER (kcell (c, k)) 0 ∅ 0)
    ∗ (bigSep Finset.univ fun k => reached ER (kcell (c, k)) 0) ∗ toks c)

/-- What it has once the invariants are in place. -/
def ready (c : Dev nD) : sProp 𝕄 := iprop(∃ K, records m K ∗ lin c)

omit [FloatOps F] in
theorem over_cells (Φ : GSem nD τ sig → sProp 𝕄) : bigSep cells Φ = bigSep Finset.univ fun c : Dev nD => bigSep Finset.univ fun k => Φ (kcell (c, k)) := by
  unfold cells; rw [bigSep_map, bigSep_univ_prod]; rfl

omit [FloatOps F] in
theorem shares : BI.own (ER (initOf cells tokens)) ⊢ (|==> bigSep Finset.univ (share m) : sProp 𝕄) := by
  have hT : bigSep tokens (fun x => (dutyTok ER x.1 x.2.1 x.2.2 : sProp 𝕄)) = bigSep Finset.univ toks := by
    unfold tokens; rw [bigSep_map, bigSep_univ_prod]; rfl
  unfold share
  simp only [bigSep_sep', ← over_cells (fun g => roundState ER (sched m) g 0), ← over_cells (fun g => (atPos ER g 0 ∅ 0 : sProp 𝕄)),
    ← over_cells (fun g => (reached ER g 0 : sProp 𝕄))]
  rw [← hT]
  iintro HX
  imod (Rounds.fund ER (sched m) cells tokens) $$ HX with ⟨Hs, Hr, Ha, Ht⟩
  imodintro
  isplitl [Hs]; · iexact Hs
  isplitl [Ha]; · iexact Ha
  isplitl [Hr] <;> iassumption

omit [FloatOps F] in
theorem own_zero (c : Dev nD) : (ownSems c : sProp 𝕄)
    = iprop((bigSepL sends.reverse fun t => semVal (sCell c t) 0) ∗ bigSepL recvs.reverse fun t => semVal (rCell c t) 0) := by
  unfold ownSems; rw [Pipeline.ownSems0_eq_of_list c osem ownList (by decide) (by decide), own_listed]; rfl

omit [FloatOps F] in
theorem bar_zero (c : Dev nD) : (unscopedSems0 c : sProp 𝕄) = semVal (barCell c) 0 := by
  unfold unscopedSems0; rw [bigSep_eq_bigSepL_of_eq [SemLoc.reg barS] (by decide) (by decide)]; rfl

omit [FloatOps F] in
theorem all_zero (c : Dev nD) : iprop(ownSems c ∗ unscopedSems0 c) ⊢ (bigSep Finset.univ fun k => semVal (kcell (c, k)) 0 : sProp 𝕄) := by
  rw [own_zero, bar_zero, cells_listed]
  iintro ⟨⟨HS, HR⟩, HB⟩
  isplitl [HB]; · iexact HB
  isplitl [HS]; · iexact HS
  iexact HR

omit [FloatOps F] in
/-- One device's cells closed under invariants, at some names. -/
theorem closed (c : Dev nD) :
    iprop((bigSep Finset.univ fun k => semVal (kcell (c, k)) 0) ∗ bigSep Finset.univ fun k => roundState ER (sched m) (kcell (c, k)) 0)
      ⊢ (|={Set.univ}=> bigSep Finset.univ fun k => iprop(∃ κ : ℕ, cellInv ER (sched m) κ (kcell (c, k))) : sProp 𝕄) := by
  rw [← bigSep_sep']
  exact (bigSep_mono fun k _ => (Rounds.body_intro ER (sched m) (kcell (c, k))).trans inv_alloc).trans (bigSep_fupd _ _)

omit [FloatOps F] in
theorem open_share (c : Dev nD) :
    iprop(ownSems c ∗ unscopedSems0 c ∗ share m c)
      ⊢ |={Set.univ}=> iprop((bigSep Finset.univ fun k => iprop(∃ κ : ℕ, cellInv ER (sched m) κ (kcell (c, k))))
          ∗ (bigSep Finset.univ fun k => atPos ER (kcell (c, k)) 0 ∅ 0) ∗ (bigSep Finset.univ fun k => reached ER (kcell (c, k)) 0) ∗ toks c) := by
  unfold share
  iintro ⟨Ho, Hu, Hs, Hrest⟩
  ihave Hv := (all_zero (F := F) c) $$ [Ho Hu]
  · isplitl [Ho] <;> iassumption
  imod (closed m c) $$ [Hv Hs] with HI
  · isplitl [Hv] <;> iassumption
  imodintro
  isplitl [HI] <;> iassumption

omit [FloatOps F] in
/-- The tokens passed to the devices that pay with them, and every device's positions, are every device's share. -/
theorem pass_tokens :
    iprop((bigSep Finset.univ fun c : Dev nD => bigSep Finset.univ fun k => (atPos ER (kcell (c, k)) 0 ∅ 0 : sProp 𝕄)) ∗ bigSep Finset.univ toks)
      ⊢ bigSep Finset.univ lin := by
  have ht : (bigSep Finset.univ (toks (F := F)) : sProp 𝕄)
      = bigSep Finset.univ fun c => iprop((bigSepL [0, 1, 2] fun i => dutyTok ER (barCell (nb i c)) 0 (opp i))
          ∗ (bigSepL sends fun t => dutyTok ER (sCell c t) 0 0) ∗ bigSepL sends fun t => dutyTok ER (rCell (tgt t c) t) 0 0) := by
    unfold toks
    simp only [duties_listed, bigSep_sep']
    rw [dealt [0, 1, 2] nbE fun i c => (dutyTok ER (tokOf (c, .inl i)).1 0 (tokOf (c, .inl i)).2.2 : sProp 𝕄),
      dealt recvs.reverse (fun t => nbE (dirOf t)) fun t c => (dutyTok ER (tokOf (c, .inr (true, t))).1 0 (tokOf (c, .inr (true, t))).2.2 : sProp 𝕄)]
    simp only [reordered sends.reverse sends (by decide) (by decide) (by decide), reordered recvs.reverse sends (by decide) (by decide) (by decide)]
    rfl
  have ha (c : Dev nD) : (bigSep Finset.univ fun k => (atPos ER (kcell (c, k)) 0 ∅ 0 : sProp 𝕄))
      = iprop(atPos ER (barCell c) 0 ∅ 0 ∗ (bigSepL sends fun t => atPos ER (sCell c t) 0 ∅ 0) ∗ bigSepL recvs fun t => atPos ER (rCell c t) 0 ∅ 0) := by
    rw [cells_listed, reordered sends.reverse sends (by decide) (by decide) (by decide), reordered recvs.reverse recvs (by decide) (by decide) (by decide)]; rfl
  rw [ht, ← bigSep_sep']
  refine bigSep_mono fun c _ => show _ ⊢ (lin c : sProp 𝕄) from ?_
  rw [ha]
  unfold lin toSend
  simp only [bigSepL_cons', bigSepL_nil]
  iintro ⟨⟨Ha, Has, Har⟩, Hb, Hs, Hr⟩
  isplitl [Hb]; · iexact Hb
  isplitl [Ha]; · iexact Ha
  isplitr [Har]
  · icases Hs with ⟨S0, S1, S2, S3, S4, S5, S6, S7, S8, S9, S10, -⟩
    icases Hr with ⟨R0, R1, R2, R3, R4, R5, R6, R7, R8, R9, R10, -⟩
    icases Has with ⟨A0, A1, A2, A3, A4, A5, A6, A7, A8, A9, A10, -⟩
    iframe
    iempintro
  iexact Har

omit [FloatOps F] in
/-- A persistent fact beside many things is beside each. -/
theorem beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']; exact bigSep_mono h

omit [FloatOps F] in
theorem make_ready :
    (bigSep Finset.univ fun c : Dev nD => iprop((bigSep Finset.univ fun k => iprop(∃ κ : ℕ, cellInv ER (sched m) κ (kcell (c, k))))
          ∗ (bigSep Finset.univ fun k => atPos ER (kcell (c, k)) 0 ∅ 0) ∗ (bigSep Finset.univ fun k => reached ER (kcell (c, k)) 0) ∗ toks c) : sProp 𝕄)
      ⊢ bigSep Finset.univ (ready m) := by
  simp only [bigSep_sep']
  rw [← bigSep_univ_prod (fun ck : Site => iprop(∃ κ : ℕ, cellInv ER (sched m) κ (kcell ck))), ← bigSep_univ_prod (fun ck : Site => (reached ER (kcell ck) 0 : sProp 𝕄))]
  iintro ⟨HI, Ha, #HR, Ht⟩
  ihave HK := (BI.bigSep_exists_pi Finset.univ (fun (ck : Site) (κ : ℕ) => (cellInv ER (sched m) κ (kcell ck) : sProp 𝕄))) $$ HI
  icases HK with ⟨%K, #HI⟩
  ihave Hl := (pass_tokens (F := F)) $$ [Ha Ht]
  · isplitl [Ha]; · iexact Ha
    iexact Ht
  iapply (beside (R := records m K) (Φ := lin) fun c _ => by unfold ready; iintro H; iexists K; iexact H)
  isplitr
  · unfold records; isplitl; · iexact HI
    iexact HR
  iexact Hl

omit [FloatOps F] in
theorem readied : (bigSep Finset.univ fun c => iprop(ownSems c ∗ unscopedSems0 c ∗ share m c) : sProp 𝕄)
    ⊢ |={Set.univ}=> bigSep Finset.univ (ready m) :=
  ((bigSep_mono fun c _ => open_share m c).trans (bigSep_fupd _ _)).trans (BI.fupd_mono (make_ready m))

/-! ## The side conditions -/

variable (ρ : Dev nD → PrngReg)

omit [FloatOps F] in
theorem credits (c : Dev nD) : (Pipeline.launchCred (fun d => dues d allPays) c : sProp 𝕄)
    ⊢ iprop(cred (tallyAt (barCell c) () 3) ∗ bigSepL recvs fun t => cred (tallyAt (rCell c t) () (amtT t))) := by
  refine (creds allPays c).trans ?_
  have h3 : iprop(cred (tallyAt (barCell c) () 1) ∗ cred (tallyAt (barCell c) () 1) ∗ cred (tallyAt (barCell c) () 1)) ⊢ (cred (tallyAt (barCell c) () 3) : sProp 𝕄) := by
    have h := tallyAt_add (barCell c) () 1 (1 + 1)
    rw [← tallyAt_add (barCell c) () 1 1] at h
    exact (sep_mono_right (cred_add _ _).2).trans ((cred_add _ _).2.trans (Entails.of_eq (congrArg cred h)))
  unfold allPays
  simp only [bigSepL_cons', bigSepL_nil]
  iintro ⟨B0, B1, B2, C0, C1, C2, C3, C4, C5, C6, C7, C8, C9, C10, -⟩
  isplitl [B0 B1 B2]
  · iapply h3
    isplitl [B0]; · iexact B0
    isplitl [B1]; · iexact B1
    iexact B2
  unfold paySem payAmt
  iframe
  iempintro

omit [FloatOps F] in
theorem start_intro (c : Dev nD) :
    iprop(Pipeline.unscopedRestP Pipeline.Prefetch.none cfg0.spec c (fun b => m ((c : Thread nD τ).loc b)) ∗ levAts L lv
        ∗ Pipeline.launchCred (fun d => dues d allPays) c ∗ prngReg c (ρ c) ∗ ready m c)
      ⊢ |={Set.univ}=> iprop(start m c ∗ emp) := by
  iintro ⟨-, Hl, Hc, -, HG⟩
  ihave Hc := (credits (F := F) c) $$ Hc
  icases Hc with ⟨HB, HR⟩
  imodintro
  unfold start ready
  isplitl
  · isplitl [HG]; · iexact HG
    isplitl [HB]; · iexact HB
    isplitl [HR] <;> iassumption
  iempintro

theorem phi_start (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hg, Hb⟩
  isplitl [Hs]; · iexact Hs
  isplitl [Hg]; · iexact Hg
  iexact Hb

theorem phi_end (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, show (Pipeline.ownSems0 osem c : sProp 𝕄) = _ from own_zero c, bar_zero]
  unfold Φ₁ scratch zeros
  iintro ⟨⟨Hg, Hb⟩, Hs, Hr, Hz⟩
  isplitl [Hz]; · iexact Hz
  isplitl [Hs Hr]; · isplitl [Hs] <;> iassumption
  isplitl [Hg]; · iexact Hg
  iexact Hb

theorem share_full (c : Dev nD) (w : Fin cfg0.W) : (dats m 0 c).share w = fullShare := by unfold Dat.share; split <;> rfl

omit [FloatOps F] in
/-- Every cell that is owed a payment has a level of its own. -/
theorem paid_high : ∀ p : Pay, 0 < lvS (paySem p) := by decide

/-- The pipeline's own waits are below everything a device owes. -/
theorem stage_waits (c : Dev nD) : (levAts L lv : sProp 𝕄) ⊢ Pipeline.cellsWaits cfgs (dats m) () 0 c :=
  Pipeline.cellsWaits_intro cfgs (dats m) () 0 c fun w s t => by
    have h0 : lvS (.dma (((cfgs 0).win w).sem s)) = 0 := by fin_cases w <;> fin_cases s <;> decide
    have low (l : List Pay) := mayWait (F := F) c (.dma (((cfgs 0).win w).sem s)) l fun p _ => by rw [h0]; exact paid_high p
    rcases t with ⟨_ | _, ht⟩
    · exact low allPays
    · exact low []

/-! ## The run -/

def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- From any memory with zero counters, over any float values, every weakly fair execution of the mesh terminates; at
    its end each device's arrays are as the pipeline computes them and every counter is zero. -/
theorem run_mesh : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := body_met m) (hne := fun w => by fin_cases w <;> exact Nat.succ_pos _) (harr := arr_whole0) (hstage := stage_whole0) (hshare := share_full m)
    (hdistinct := winFacts0.arr_inj)
    (O₀ := fun c => dues c allPays) (howed₀ := fun _ => rfl) (howedN := fun _ => rfl)
    (L := L) (lv := lv) (hL := L_of_ne) (hwaits := stage_waits m)
    (G := share m) (G' := ready m) (u₀ := u₀)
    (hu₀ := by
      unfold u₀
      iintro Hu
      ihave H := (ownU_pair _ _) $$ Hu
      icases H with ⟨HP, HX⟩
      imod (shares m) $$ HX with HG
      imodintro
      isplitl [HP] <;> iassumption)
    (hglob := readied m)
    (hA := fun _ _ => rfl) (hpf := fun _ k => k.elim0)
    (X := start m) (Y := fun c => unscopedSems0 c) (Z := fun _ => iprop(emp))
    (hX := start_intro m ρ) (hin := phi_start m) (hout := phi_end m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.GatherMatmul

end
-- ==== Proof.Value.lean ====
/-
# The value

What each device's result array holds after the run, and that over the extended reals it is that device's columns of the
product of the whole arrays.
-/
module

public import proofs.«01_k».proof.Proof.Launch
public import proofs.«01_k».proof.Proof.Gen.ReferenceIdeal.Run
public import Idealize.ShloMosaic.Lib.Layout
public import Idealize.ShloMosaic.Lib.StackMember
public import Idealize.ShloMosaic.Lib.KernelVsHost
public import Idealize.ShloMosaic.Lib.Pipeline.ValueKit.Geometry

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (ℓ : Loc nD τ sig) → Buf (Elt F) ℓ)

open scoped BigOperators

variable (ρ : Dev nD → PrngReg)

/-- The result array after the run is what the body left staged. -/
theorem result_array (c : Dev nD) : (dats m 0 c).arrAt (2 : Fin 3) cfg0.N = outAt m c :=
  (dats m 0 c).arrAt_eq_of_after_last (2 : Fin 3) t0_0 (by decide +kernel) (outAt m c) (fun j => rfl)

omit [FloatOps F] in
/-- A device's staged block of `x` is its argument array, -/
theorem xstg_eq (c : Dev nD) : xstg m c = m ((c : Thread nD τ).loc main_arg0) := by
  funext i; unfold xstg; rw [View.read_apply]
  refine congrArg (m ((c : Thread nD τ).loc main_arg0)) (funext fun a => Fin.ext ?_)
  exact Pipeline.Window.rect_emb_val_of_index_zero win0_0 (0 : Fin 1) a rfl i
omit [FloatOps F] in
/-- and its staged block of `w` likewise. -/
theorem wstg_eq (c : Dev nD) : wstg m c = m ((c : Thread nD τ).loc main_arg1) := by
  funext i; unfold wstg; rw [View.read_apply]
  refine congrArg (m ((c : Thread nD τ).loc main_arg1)) (funext fun a => Fin.ext ?_)
  exact Pipeline.Window.rect_emb_val_of_index_zero win0_1 (0 : Fin 1) a rfl i

/-- What the launch claims of the kernel: it ends, its arguments unchanged, each result as computed, every counter zero. -/
theorem run_kernel : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨(h.1 c (2 : Fin 3)).trans (result_array m c),
    (h.1 c (0 : Fin 3)).trans ((dats m 0 c).arrAt_in (0 : Fin 3) rfl _), (h.1 c (1 : Fin 3)).trans ((dats m 0 c).arrAt_in (1 : Fin 3) rfl _)⟩, h.2⟩) (run_mesh m ρ)

/-- Over the extended reals, an entry of a block product is the sum over the contracted coordinate. -/
theorem block_product (x : FVec Ideal S128x1024 .bf16) (w : FVec Ideal S1024x128 .bf16) (a b : Fin 128) :
    (k0_pay3 (F := Ideal) x w (ix2 a b) : EReal) = ∑ k : Fin 1024, (x (ix2 a k) : EReal) * (w (ix2 k b) : EReal) := by
  unfold k0_pay3
  show matmul _ none x w (constant _ .f32 0x00000000#32) _ = _
  rw [matmul_zero_eq_dotGeneral]
  exact StackMember.dotGeneral_plain_apply none x w a b

/-- The whole product, as the reference computes it. -/
abbrev whole (X W : FVec Ideal Cert.ReferenceIdeal.S1024x1024 .bf16) : FVec Ideal Cert.ReferenceIdeal.S1024x1024 .f32 :=
  extf .f32 (truncf .bf16 (Host.dotGeneral Cert.ReferenceIdeal.dot_S1024x1024_S1024x1024_S1024x1024_1_0_0_1_n_n none X W)
    Cert.ReferenceIdeal.Facts₀.bitsLt_bf16_f32) Cert.ReferenceIdeal.Facts₀.bitsLt_bf16_f32

/-- Its entries: the roundings are the identity over the extended reals. -/
theorem whole_entry (X W : FVec Ideal Cert.ReferenceIdeal.S1024x1024 .bf16) (a b : Fin 1024) :
    whole X W (ix2 a b) = ∑ k : Fin 1024, X (ix2 a k) * W (ix2 k b) :=
  StackMember.dotGeneral_plain_apply none X W a b

/-- Each device's result is its block of columns of the whole product. -/
theorem result_block (m : (ℓ : Loc nD τ sig) → Buf (Elt Ideal) ℓ) (X W : FVec Ideal Cert.ReferenceIdeal.S1024x1024 .bf16)
    (hx : ∀ c : Dev nD, m ((c : Thread nD τ).loc main_arg0) = Layout.block ⟨2, ![128, 1024]⟩ ⟨2, ![1024, 1024]⟩ 0 8 c X)
    (hw : ∀ c : Dev nD, m ((c : Thread nD τ).loc main_arg1) = Layout.block ⟨2, ![1024, 128]⟩ ⟨2, ![1024, 1024]⟩ 1 8 c W) (c : Dev nD) :
    outAt m c = Layout.block ⟨2, ![1024, 128]⟩ ⟨2, ![1024, 1024]⟩ 1 8 c (whole X W) := by
  funext i
  obtain ⟨a, b, rfl⟩ : ∃ (a : Fin 1024) (b : Fin 128), i = ix2 a b := ⟨i 0, i 1, (ix2_eta i).symm⟩
  have hb : c.val * 128 + b.val < 1024 := by have := c.isLt; have := b.isLt; simp only [nD] at *; omega
  have hidx (h : Layout.Tiles ⟨2, ![1024, 128]⟩ ⟨2, ![1024, 1024]⟩ 1 8) (k : Fin 1024) :
      h.idx c (ix2 k b) = ix2 k ⟨c.val * 128 + b.val, hb⟩ := by
    funext d; apply Fin.ext; fin_cases d <;> rfl
  have hrow (h : Layout.Tiles ⟨2, ![128, 1024]⟩ ⟨2, ![1024, 1024]⟩ 0 8) (k : Fin 1024) :
      h.idx (ownerOf a) (ix2 (inBlock a) k) = ix2 a k := by
    funext d; apply Fin.ext; fin_cases d
    · show a.val / 128 * 128 + a.val % 128 = a.val
      omega
    · rfl
  rw [Layout.block_apply, hidx, whole_entry]
  show k0_pay3 (xstg m (ownerOf a)) (wstg m c) (ix2 (inBlock a) b) = _
  rw [block_product, xstg_eq, wstg_eq, hx, hw]
  refine Finset.sum_congr rfl fun k _ => ?_
  rw [Layout.block_apply, Layout.block_apply, hidx, hrow]

end Cert.GatherMatmul

end
-- ==== Proof.lean ====
/- The claims: the frames of the kernel and of the reference, and the value of the kernel. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two programs have one text, so their bodies are one. -/
theorem defs_same : Cert.Kernel.defs (F := Bits) = Cert.KernelIdeal.defs (F := Bits) :=
  congrArg (Pipeline.defs Cert.Kernel.pcfgs) (funext fun k => match k with
    | .tc => funext fun ℓ => by fin_cases ℓ; rfl
    | .scScalar _ => rfl
    | .scVector _ _ => rfl)

/-- The kernel on the machine's own floats: the run over any float values serves. -/
theorem frame_kernel : Cert.quiescent_Kernel := fun m ρ _ => by
  rw [defs_same]
  exact (θ_run Cert.KernelIdeal.defs _ _).mono (fun _ h => ⟨fun c => (h.1 c).2, h.2⟩) (Cert.GatherMatmul.run_kernel (F := Bits) m ρ)

/-- The kernel on the extended reals. -/
theorem frame_ideal : Cert.quiescent_KernelIdeal := fun m ρ _ =>
  (θ_run Cert.KernelIdeal.defs _ _).mono (fun _ h => ⟨fun c => (h.1 c).2, h.2⟩) (Cert.GatherMatmul.run_kernel m ρ)

/-- The reference: a program of host operations, with no semaphore to leave raised. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- Each device's result is its block of columns of the reference's result. -/
theorem value : Cert.algebraic_KernelIdeal_ReferenceIdeal := fun m ρ m' ρ' _ hm =>
  ⟨Cert.GatherMatmul.whole _ _,
    (θ_run Cert.KernelIdeal.defs _ _).mono (fun _ h c => ⟨(h.1 c).1.trans
      (Cert.GatherMatmul.result_block m _ _ (fun d => (hm d).1) (fun d => (hm d).2) c), (h.1 c).2⟩) (Cert.GatherMatmul.run_kernel m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
